-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v46)) (v1 : (c : Dev Cert.KernelIdeal.nD) → Buf (Elt Ideal) ((c.tc : Thread Cert.KernelIdeal.nD Cert.KernelIdeal.τ).loc Cert.KernelIdeal.main_v38)) (v2 : (c : Dev Cert.KernelIdeal.nD) → Buf (Elt Ideal) ((c.tc : Thread Cert.KernelIdeal.nD Cert.KernelIdeal.τ).loc Cert.KernelIdeal.main_v48)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v46) = v0 c
          ∧ r.2.mem ((c.tc : Thread Cert.KernelIdeal.nD Cert.KernelIdeal.τ).loc Cert.KernelIdeal.main_v38) = v1 c
          ∧ r.2.mem ((c.tc : Thread Cert.KernelIdeal.nD Cert.KernelIdeal.τ).loc Cert.KernelIdeal.main_v48) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v109) = v0 c
          ∧ r.2.mem ((c.tc : Thread Cert.ReferenceIdeal.nD Cert.ReferenceIdeal.τ).loc Cert.ReferenceIdeal.main_v110) = v1 c
          ∧ r.2.mem ((c.tc : Thread Cert.ReferenceIdeal.nD Cert.ReferenceIdeal.τ).loc Cert.ReferenceIdeal.main_v104_4) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S20000x81 : Shape := ⟨2, ![20000, 81]⟩
abbrev S20000x4 : Shape := ⟨2, ![20000, 4]⟩
abbrev S2000x81 : Shape := ⟨2, ![2000, 81]⟩
abbrev S2000 : Shape := ⟨1, ![2000]⟩
abbrev S2000x1 : Shape := ⟨2, ![2000, 1]⟩
abbrev S20000x19 : Shape := ⟨2, ![20000, 19]⟩
abbrev S380000 : Shape := ⟨1, ![380000]⟩
abbrev S_ : Shape := ⟨0, ![]⟩
abbrev S1 : Shape := ⟨1, ![1]⟩
abbrev S1x1 : Shape := ⟨2, ![1, 1]⟩
abbrev S2000x4 : Shape := ⟨2, ![2000, 4]⟩
abbrev S2048 : Shape := ⟨1, ![2048]⟩
abbrev S16x128 : Shape := ⟨2, ![16, 128]⟩
abbrev S1x16x128 : Shape := ⟨3, ![1, 16, 128]⟩
abbrev S1x1x1 : Shape := ⟨3, ![1, 1, 1]⟩
abbrev S2000x5 : Shape := ⟨2, ![2000, 5]⟩

abbrev nBuf : Space → Nat
  | .hbm => 134
  | .vmem => 18
  | .smem => 0
  | _ => 0

abbrev hbmTy0_0 (i : Nat) : BufTy := match i % 128 with
  | 0 => ⟨S20000x81, .f32⟩
  | 1 => ⟨S20000x4, .f32⟩
  | 2 => ⟨S20000x81, .f32⟩
  | 3 => ⟨S20000x19, .f32⟩
  | 4 => ⟨S20000x19, .i32⟩
  | 5 => ⟨S380000, .f32⟩
  | 6 => ⟨S2000, .f32⟩
  | 7 => ⟨S2000, .i32⟩
  | 8 => ⟨S_, .i32⟩
  | 9 => ⟨S_, .i32⟩
  | 10 => ⟨S2000, .i32⟩
  | 11 => ⟨S2000, .i32⟩
  | 12 => ⟨S2000, .i32⟩
  | 13 => ⟨S_, .i32⟩
  | 14 => ⟨S2000, .i32⟩
  | 15 => ⟨S2000, .i1⟩
  | 16 => ⟨S2000, .i32⟩
  | 17 => ⟨S2000, .i32⟩
  | 18 => ⟨S_, .i32⟩
  | 19 => ⟨S2000, .i32⟩
  | 20 => ⟨S2000, .i1⟩
  | 21 => ⟨S2000, .i1⟩
  | 22 => ⟨S_, .i32⟩
  | 23 => ⟨S2000, .i32⟩
  | 24 => ⟨S2000, .i32⟩
  | 25 => ⟨S2000, .i32⟩
  | 26 => ⟨S380000, .i32⟩
  | 27 => ⟨S_, .i32⟩
  | 28 => ⟨S2000, .i32⟩
  | 29 => ⟨S2000, .i1⟩
  | 30 => ⟨S_, .i32⟩
  | 31 => ⟨S2000, .i32⟩
  | 32 => ⟨S2000, .i32⟩
  | 33 => ⟨S2000, .i32⟩
  | 34 => ⟨S2000x1, .i32⟩
  | 35 => ⟨S1, .i32⟩
  | 36 => ⟨S_, .i32⟩
  | 37 => ⟨S2000x1, .i32⟩
  | 38 => ⟨S2000x1, .i1⟩
  | 39 => ⟨S1x1, .i32⟩
  | 40 => ⟨S2000x1, .i32⟩
  | 41 => ⟨S2000x1, .i1⟩
  | 42 => ⟨S2000x1, .i1⟩
  | 43 => ⟨S_, .i1⟩
  | 44 => ⟨S2000, .i1⟩
  | 45 => ⟨S2000, .i32⟩
  | 46 => ⟨S_, .i32⟩
  | 47 => ⟨S2000, .i32⟩
  | 48 => ⟨S2000, .i32⟩
  | 49 => ⟨S_, .i32⟩
  | 50 => ⟨S2000, .i32⟩
  | 51 => ⟨S2000, .i1⟩
  | 52 => ⟨S_, .i32⟩
  | 53 => ⟨S2000, .i32⟩
  | 54 => ⟨S2000, .i32⟩
  | 55 => ⟨S2000, .i32⟩
  | 56 => ⟨S2000x1, .i32⟩
  | 57 => ⟨S1, .i32⟩
  | 58 => ⟨S_, .i32⟩
  | 59 => ⟨S2000x1, .i32⟩
  | 60 => ⟨S2000x1, .i1⟩
  | 61 => ⟨S1x1, .i32⟩
  | 62 => ⟨S2000x1, .i32⟩
  | 63 => ⟨S2000x1, .i1⟩
  | 64 => ⟨S2000x1, .i1⟩
  | 65 => ⟨S_, .i1⟩
  | 66 => ⟨S2000, .i1⟩
  | 67 => ⟨S2000x4, .f32⟩
  | 68 => ⟨S2000x4, .i1⟩
  | 69 => ⟨S_, .f32⟩
  | 70 => ⟨S2000x4, .f32⟩
  | 71 => ⟨S2000x4, .f32⟩
  | 72 => ⟨S2000x1, .f32⟩
  | 73 => ⟨S2000, .f32⟩
  | 74 => ⟨S_, .f32⟩
  | 75 => ⟨S_, .f32⟩
  | 76 => ⟨S2048, .f32⟩
  | 77 => ⟨S16x128, .f32⟩
  | 78 => ⟨S2000x1, .f32⟩
  | 79 => ⟨S2000, .f32⟩
  | 80 => ⟨S_, .f32⟩
  | 81 => ⟨S_, .f32⟩
  | 82 => ⟨S2048, .f32⟩
  | 83 => ⟨S16x128, .f32⟩
  | 84 => ⟨S2000x1, .f32⟩
  | 85 => ⟨S2000, .f32⟩
  | 86 => ⟨S_, .f32⟩
  | 87 => ⟨S_, .f32⟩
  | 88 => ⟨S2048, .f32⟩
  | 89 => ⟨S16x128, .f32⟩
  | 90 => ⟨S2000x1, .f32⟩
  | 91 => ⟨S2000, .f32⟩
  | 92 => ⟨S_, .f32⟩
  | 93 => ⟨S_, .f32⟩
  | 94 => ⟨S2048, .f32⟩
  | 95 => ⟨S16x128, .f32⟩
  | 96 => ⟨S_, .f32⟩
  | 97 => ⟨S_, .f32⟩
  | 98 => ⟨S2048, .f32⟩
  | 99 => ⟨S16x128, .f32⟩
  | 100 => ⟨S_, .i32⟩
  | 101 => ⟨S_, .i32⟩
  | 102 => ⟨S2048, .i32⟩
  | 103 => ⟨S16x128, .i32⟩
  | 104 => ⟨S16x128, .f32⟩
  | 105 => ⟨S16x128, .f32⟩
  | 106 => ⟨S16x128, .f32⟩
  | 107 => ⟨S16x128, .f32⟩
  | 108 => ⟨S16x128, .f32⟩
  | 109 => ⟨S16x128, .i32⟩
  | 110 => ⟨S16x128, .f32⟩
  | 111 => ⟨S2048, .f32⟩
  | 112 => ⟨S2000, .f32⟩
  | 113 => ⟨S2048, .f32⟩
  | 114 => ⟨S2000, .f32⟩
  | 115 => ⟨S2048, .f32⟩
  | 116 => ⟨S2000, .f32⟩
  | 117 => ⟨S2048, .f32⟩
  | 118 => ⟨S2000, .f32⟩
  | 119 => ⟨S2048, .f32⟩
  | 120 => ⟨S2000, .f32⟩
  | 121 => ⟨S2048, .i32⟩
  | 122 => ⟨S2000, .i32⟩
  | 123 => ⟨S2048, .f32⟩
  | 124 => ⟨S2000, .f32⟩
  | 125 => ⟨S2000x1, .f32⟩
  | 126 => ⟨S2000x1, .f32⟩
  | 127 => ⟨S2000x1, .f32⟩
  | _ => ⟨S20000x81, .f32⟩

abbrev hbmTy0_1 (i : Nat) : BufTy := match i % 128 with
  | 0 => ⟨S2000x1, .f32⟩
  | 1 => ⟨S2000x1, .f32⟩
  | 2 => ⟨S2000x5, .f32⟩
  | 3 => ⟨S_, .f32⟩
  | 4 => ⟨S2000, .f32⟩
  | 5 => ⟨S2000, .i1⟩
  | _ => ⟨S20000x81, .f32⟩

abbrev hbmTy (i : Nat) : BufTy := match i / 128 with
  | 0 => hbmTy0_0 i
  | 1 => hbmTy0_1 i
  | _ => ⟨S20000x81, .f32⟩

abbrev bufTy : (tb : Table) → Fin (tcTables nBuf tb) → BufTy
  | .hbm, ⟨i, _⟩ => hbmTy i
  | .local _ .vmem, ⟨0, _⟩ => ⟨S2000x81, .f32⟩
  | .local _ .vmem, ⟨1, _⟩ => ⟨S2000x81, .f32⟩
  | .local _ .vmem, ⟨2, _⟩ => ⟨S2000x81, .f32⟩
  | .local _ .vmem, ⟨3, _⟩ => ⟨S2000x81, .f32⟩
  | .local _ .vmem, ⟨4, _⟩ => ⟨S16x128, .f32⟩
  | .local _ .vmem, ⟨5, _⟩ => ⟨S16x128, .f32⟩
  | .local _ .vmem, ⟨6, _⟩ => ⟨S16x128, .f32⟩
  | .local _ .vmem, ⟨7, _⟩ => ⟨S16x128, .f32⟩
  | .local _ .vmem, ⟨8, _⟩ => ⟨S16x128, .f32⟩
  | .local _ .vmem, ⟨9, _⟩ => ⟨S16x128, .i32⟩
  | .local _ .vmem, ⟨10, _⟩ => ⟨S16x128, .f32⟩
  | .local _ .vmem, ⟨11, _⟩ => ⟨S16x128, .f32⟩
  | .local _ .vmem, ⟨12, _⟩ => ⟨S16x128, .f32⟩
  | .local _ .vmem, ⟨13, _⟩ => ⟨S16x128, .f32⟩
  | .local _ .vmem, ⟨14, _⟩ => ⟨S16x128, .f32⟩
  | .local _ .vmem, ⟨15, _⟩ => ⟨S16x128, .i32⟩
  | .local _ .vmem, ⟨16, _⟩ => ⟨S16x128, .f32⟩
  | .local _ .vmem, ⟨17, _⟩ => ⟨S16x128, .f32⟩
  | _, _ => ⟨S20000x81, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_values : Ref sig .tc := ⟨.hbm, 3, rfl⟩
abbrev main_indices : Ref sig .tc := ⟨.hbm, 4, rfl⟩
abbrev main_v1 : Ref sig .tc := ⟨.hbm, 5, rfl⟩
abbrev main_values_0 : Ref sig .tc := ⟨.hbm, 6, rfl⟩
abbrev main_indices_1 : Ref sig .tc := ⟨.hbm, 7, rfl⟩
abbrev main_c : Ref sig .tc := ⟨.hbm, 8, rfl⟩
abbrev main_call0_v0 : Ref sig .tc := ⟨.hbm, 9, rfl⟩
abbrev main_call0_v1 : Ref sig .tc := ⟨.hbm, 10, rfl⟩
abbrev main_call0_v2 : Ref sig .tc := ⟨.hbm, 11, rfl⟩
abbrev main_call0_v3 : Ref sig .tc := ⟨.hbm, 12, rfl⟩
abbrev main_call0_v4 : Ref sig .tc := ⟨.hbm, 13, rfl⟩
abbrev main_call0_v5 : Ref sig .tc := ⟨.hbm, 14, rfl⟩
abbrev main_call0_v6 : Ref sig .tc := ⟨.hbm, 15, rfl⟩
abbrev main_call0_v7 : Ref sig .tc := ⟨.hbm, 16, rfl⟩
abbrev main_call0_v8 : Ref sig .tc := ⟨.hbm, 17, rfl⟩
abbrev main_call0_c : Ref sig .tc := ⟨.hbm, 18, rfl⟩
abbrev main_call0_v9 : Ref sig .tc := ⟨.hbm, 19, rfl⟩
abbrev main_call0_v10 : Ref sig .tc := ⟨.hbm, 20, rfl⟩
abbrev main_call0_v11 : Ref sig .tc := ⟨.hbm, 21, rfl⟩
abbrev main_call0_c_0 : Ref sig .tc := ⟨.hbm, 22, rfl⟩
abbrev main_call0_v12 : Ref sig .tc := ⟨.hbm, 23, rfl⟩
abbrev main_call0_v13 : Ref sig .tc := ⟨.hbm, 24, rfl⟩
abbrev main_v2 : Ref sig .tc := ⟨.hbm, 25, rfl⟩
abbrev main_v3 : Ref sig .tc := ⟨.hbm, 26, rfl⟩
abbrev main_call1_c : Ref sig .tc := ⟨.hbm, 27, rfl⟩
abbrev main_call1_v0 : Ref sig .tc := ⟨.hbm, 28, rfl⟩
abbrev main_call1_v1 : Ref sig .tc := ⟨.hbm, 29, rfl⟩
abbrev main_call1_c_0 : Ref sig .tc := ⟨.hbm, 30, rfl⟩
abbrev main_call1_v2 : Ref sig .tc := ⟨.hbm, 31, rfl⟩
abbrev main_call1_v3 : Ref sig .tc := ⟨.hbm, 32, rfl⟩
abbrev main_call1_v4 : Ref sig .tc := ⟨.hbm, 33, rfl⟩
abbrev main_call1_v5 : Ref sig .tc := ⟨.hbm, 34, rfl⟩
abbrev main_call1_c_1 : Ref sig .tc := ⟨.hbm, 35, rfl⟩
abbrev main_call1_c_2 : Ref sig .tc := ⟨.hbm, 36, rfl⟩
abbrev main_call1_v6 : Ref sig .tc := ⟨.hbm, 37, rfl⟩
abbrev main_call1_v7 : Ref sig .tc := ⟨.hbm, 38, rfl⟩
abbrev main_call1_v8 : Ref sig .tc := ⟨.hbm, 39, rfl⟩
abbrev main_call1_v9 : Ref sig .tc := ⟨.hbm, 40, rfl⟩
abbrev main_call1_v10 : Ref sig .tc := ⟨.hbm, 41, rfl⟩
abbrev main_call1_v11 : Ref sig .tc := ⟨.hbm, 42, rfl⟩
abbrev main_call1_c_3 : Ref sig .tc := ⟨.hbm, 43, rfl⟩
abbrev main_call1_v12 : Ref sig .tc := ⟨.hbm, 44, rfl⟩
abbrev main_call1_v13 : Ref sig .tc := ⟨.hbm, 45, rfl⟩
abbrev main_call1_c_4 : Ref sig .tc := ⟨.hbm, 46, rfl⟩
abbrev main_call1_v14 : Ref sig .tc := ⟨.hbm, 47, rfl⟩
abbrev main_v4 : Ref sig .tc := ⟨.hbm, 48, rfl⟩
abbrev main_call2_c : Ref sig .tc := ⟨.hbm, 49, rfl⟩
abbrev main_call2_v0 : Ref sig .tc := ⟨.hbm, 50, rfl⟩
abbrev main_call2_v1 : Ref sig .tc := ⟨.hbm, 51, rfl⟩
abbrev main_call2_c_0 : Ref sig .tc := ⟨.hbm, 52, rfl⟩
abbrev main_call2_v2 : Ref sig .tc := ⟨.hbm, 53, rfl⟩
abbrev main_call2_v3 : Ref sig .tc := ⟨.hbm, 54, rfl⟩
abbrev main_call2_v4 : Ref sig .tc := ⟨.hbm, 55, rfl⟩
abbrev main_call2_v5 : Ref sig .tc := ⟨.hbm, 56, rfl⟩
abbrev main_call2_c_1 : Ref sig .tc := ⟨.hbm, 57, rfl⟩
abbrev main_call2_c_2 : Ref sig .tc := ⟨.hbm, 58, rfl⟩
abbrev main_call2_v6 : Ref sig .tc := ⟨.hbm, 59, rfl⟩
abbrev main_call2_v7 : Ref sig .tc := ⟨.hbm, 60, rfl⟩
abbrev main_call2_v8 : Ref sig .tc := ⟨.hbm, 61, rfl⟩
abbrev main_call2_v9 : Ref sig .tc := ⟨.hbm, 62, rfl⟩
abbrev main_call2_v10 : Ref sig .tc := ⟨.hbm, 63, rfl⟩
abbrev main_call2_v11 : Ref sig .tc := ⟨.hbm, 64, rfl⟩
abbrev main_call2_c_3 : Ref sig .tc := ⟨.hbm, 65, rfl⟩
abbrev main_call2_v12 : Ref sig .tc := ⟨.hbm, 66, rfl⟩
abbrev main_call2_v13 : Ref sig .tc := ⟨.hbm, 67, rfl⟩
abbrev main_call2_v14 : Ref sig .tc := ⟨.hbm, 68, rfl⟩
abbrev main_call2_cst : Ref sig .tc := ⟨.hbm, 69, rfl⟩
abbrev main_call2_v15 : Ref sig .tc := ⟨.hbm, 70, rfl⟩
abbrev main_v5 : Ref sig .tc := ⟨.hbm, 71, rfl⟩
abbrev main_v6 : Ref sig .tc := ⟨.hbm, 72, rfl⟩
abbrev main_v7 : Ref sig .tc := ⟨.hbm, 73, rfl⟩
abbrev main_cst : Ref sig .tc := ⟨.hbm, 74, rfl⟩
abbrev main_call3_v0 : Ref sig .tc := ⟨.hbm, 75, rfl⟩
abbrev main_v8 : Ref sig .tc := ⟨.hbm, 76, rfl⟩
abbrev main_v9 : Ref sig .tc := ⟨.hbm, 77, rfl⟩
abbrev main_v10 : Ref sig .tc := ⟨.hbm, 78, rfl⟩
abbrev main_v11 : Ref sig .tc := ⟨.hbm, 79, rfl⟩
abbrev main_cst_2 : Ref sig .tc := ⟨.hbm, 80, rfl⟩
abbrev main_call4_v0 : Ref sig .tc := ⟨.hbm, 81, rfl⟩
abbrev main_v12 : Ref sig .tc := ⟨.hbm, 82, rfl⟩
abbrev main_v13 : Ref sig .tc := ⟨.hbm, 83, rfl⟩
abbrev main_v14 : Ref sig .tc := ⟨.hbm, 84, rfl⟩
abbrev main_v15 : Ref sig .tc := ⟨.hbm, 85, rfl⟩
abbrev main_cst_3 : Ref sig .tc := ⟨.hbm, 86, rfl⟩
abbrev main_call5_v0 : Ref sig .tc := ⟨.hbm, 87, rfl⟩
abbrev main_v16 : Ref sig .tc := ⟨.hbm, 88, rfl⟩
abbrev main_v17 : Ref sig .tc := ⟨.hbm, 89, rfl⟩
abbrev main_v18 : Ref sig .tc := ⟨.hbm, 90, rfl⟩
abbrev main_v19 : Ref sig .tc := ⟨.hbm, 91, rfl⟩
abbrev main_cst_4 : Ref sig .tc := ⟨.hbm, 92, rfl⟩
abbrev main_call6_v0 : Ref sig .tc := ⟨.hbm, 93, rfl⟩
abbrev main_v20 : Ref sig .tc := ⟨.hbm, 94, rfl⟩
abbrev main_v21 : Ref sig .tc := ⟨.hbm, 95, rfl⟩
abbrev main_cst_5 : Ref sig .tc := ⟨.hbm, 96, rfl⟩
abbrev main_call7_v0 : Ref sig .tc := ⟨.hbm, 97, rfl⟩
abbrev main_v22 : Ref sig .tc := ⟨.hbm, 98, rfl⟩
abbrev main_v23 : Ref sig .tc := ⟨.hbm, 99, rfl⟩
abbrev main_c_6 : Ref sig .tc := ⟨.hbm, 100, rfl⟩
abbrev main_call8_v0 : Ref sig .tc := ⟨.hbm, 101, rfl⟩
abbrev main_v24 : Ref sig .tc := ⟨.hbm, 102, rfl⟩
abbrev main_v25 : Ref sig .tc := ⟨.hbm, 103, rfl⟩
abbrev main_v26_0 : Ref sig .tc := ⟨.hbm, 104, rfl⟩
abbrev main_v26_1 : Ref sig .tc := ⟨.hbm, 105, rfl⟩
abbrev main_v26_2 : Ref sig .tc := ⟨.hbm, 106, rfl⟩
abbrev main_v26_3 : Ref sig .tc := ⟨.hbm, 107, rfl⟩
abbrev main_v26_4 : Ref sig .tc := ⟨.hbm, 108, rfl⟩
abbrev main_v26_5 : Ref sig .tc := ⟨.hbm, 109, rfl⟩
abbrev main_v26_6 : Ref sig .tc := ⟨.hbm, 110, rfl⟩
abbrev main_v27 : Ref sig .tc := ⟨.hbm, 111, rfl⟩
abbrev main_v28 : Ref sig .tc := ⟨.hbm, 112, rfl⟩
abbrev main_v29 : Ref sig .tc := ⟨.hbm, 113, rfl⟩
abbrev main_v30 : Ref sig .tc := ⟨.hbm, 114, rfl⟩
abbrev main_v31 : Ref sig .tc := ⟨.hbm, 115, rfl⟩
abbrev main_v32 : Ref sig .tc := ⟨.hbm, 116, rfl⟩
abbrev main_v33 : Ref sig .tc := ⟨.hbm, 117, rfl⟩
abbrev main_v34 : Ref sig .tc := ⟨.hbm, 118, rfl⟩
abbrev main_v35 : Ref sig .tc := ⟨.hbm, 119, rfl⟩
abbrev main_v36 : Ref sig .tc := ⟨.hbm, 120, rfl⟩
abbrev main_v37 : Ref sig .tc := ⟨.hbm, 121, rfl⟩
abbrev main_v38 : Ref sig .tc := ⟨.hbm, 122, rfl⟩
abbrev main_v39 : Ref sig .tc := ⟨.hbm, 123, rfl⟩
abbrev main_v40 : Ref sig .tc := ⟨.hbm, 124, rfl⟩
abbrev main_v41 : Ref sig .tc := ⟨.hbm, 125, rfl⟩
abbrev main_v42 : Ref sig .tc := ⟨.hbm, 126, rfl⟩
abbrev main_v43 : Ref sig .tc := ⟨.hbm, 127, rfl⟩
abbrev main_v44 : Ref sig .tc := ⟨.hbm, 128, rfl⟩
abbrev main_v45 : Ref sig .tc := ⟨.hbm, 129, rfl⟩
abbrev main_v46 : Ref sig .tc := ⟨.hbm, 130, rfl⟩
abbrev main_cst_7 : Ref sig .tc := ⟨.hbm, 131, rfl⟩
abbrev main_v47 : Ref sig .tc := ⟨.hbm, 132, rfl⟩
abbrev main_v48 : Ref sig .tc := ⟨.hbm, 133, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc1_stg0_0 : Ref sig .tc := ⟨.vmem, 4, rfl⟩
abbrev cc1_stg1_0 : Ref sig .tc := ⟨.vmem, 5, rfl⟩
abbrev cc1_stg2_0 : Ref sig .tc := ⟨.vmem, 6, rfl⟩
abbrev cc1_stg3_0 : Ref sig .tc := ⟨.vmem, 7, rfl⟩
abbrev cc1_stg4_0 : Ref sig .tc := ⟨.vmem, 8, rfl⟩
abbrev cc1_stg5_0 : Ref sig .tc := ⟨.vmem, 9, rfl⟩
abbrev cc1_stg6_0 : Ref sig .tc := ⟨.vmem, 10, rfl⟩
abbrev cc1_stg7_0 : Ref sig .tc := ⟨.vmem, 11, rfl⟩
abbrev cc1_stg8_0 : Ref sig .tc := ⟨.vmem, 12, rfl⟩
abbrev cc1_stg9_0 : Ref sig .tc := ⟨.vmem, 13, rfl⟩
abbrev cc1_stg10_0 : Ref sig .tc := ⟨.vmem, 14, rfl⟩
abbrev cc1_stg11_0 : Ref sig .tc := ⟨.vmem, 15, rfl⟩
abbrev cc1_stg12_0 : Ref sig .tc := ⟨.vmem, 16, rfl⟩
abbrev cc1_scratch0 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc1_sem0_0 : DmaSem sig := 4
abbrev cc1_sem1_0 : DmaSem sig := 5
abbrev cc1_sem2_0 : DmaSem sig := 6
abbrev cc1_sem3_0 : DmaSem sig := 7
abbrev cc1_sem4_0 : DmaSem sig := 8
abbrev cc1_sem5_0 : DmaSem sig := 9
abbrev cc1_sem6_0 : DmaSem sig := 10
abbrev cc1_sem7_0 : DmaSem sig := 11
abbrev cc1_sem8_0 : DmaSem sig := 12
abbrev cc1_sem9_0 : DmaSem sig := 13
abbrev cc1_sem10_0 : DmaSem sig := 14
abbrev cc1_sem11_0 : DmaSem sig := 15
abbrev cc1_sem12_0 : DmaSem sig := 16

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x81 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x81 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev grid1 : Pipeline.Grid := .none

@[reducible] def k1_t1_loop : Scf.Loop 32 :=
  let c0_i32 : BitVec 32 := 0#32
  let c2000_i32 : BitVec 32 := 2000#32
  let v54 : BitVec 32 := Scalar.addi c0_i32 c2000_i32
  let c1_i32 : BitVec 32 := 1#32
  ⟨c0_i32, v54, c1_i32⟩
abbrev stage1_0 : Fin 1 → Memref sig .tc .vmem S16x128 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))

abbrev stage1_1 : Fin 1 → Memref sig .tc .vmem S16x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))

abbrev stage1_2 : Fin 1 → Memref sig .tc .vmem S16x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))

abbrev stage1_3 : Fin 1 → Memref sig .tc .vmem S16x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))

abbrev stage1_4 : Fin 1 → Memref sig .tc .vmem S16x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))

abbrev stage1_5 : Fin 1 → Memref sig .tc .vmem S16x128 .i32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))

abbrev stage1_6 : Fin 1 → Memref sig .tc .vmem S16x128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))

abbrev stage1_7 : Fin 1 → Memref sig .tc .vmem S16x128 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))

abbrev stage1_8 : Fin 1 → Memref sig .tc .vmem S16x128 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))

abbrev stage1_9 : Fin 1 → Memref sig .tc .vmem S16x128 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))

abbrev stage1_10 : Fin 1 → Memref sig .tc .vmem S16x128 .f32 := fun | 0 => Memref.whole cc1_stg10_0 | ⟨_ + 1, h⟩ => absurd h (Nat.not_lt.2 (Nat.le_add_left _ _))
abbrev sem1_10 : Fin 1 → DmaSem sig := fun | 0 => cc1_sem10_0 | ⟨_ + 1, h⟩ => absurd h (Nat.not_lt.2 (Nat.le_add_left _ _))

abbrev stage1_11 : Fin 1 → Memref sig .tc .vmem S16x128 .i32 := fun | 0 => Memref.whole cc1_stg11_0 | ⟨_ + 1, h⟩ => absurd h (Nat.not_lt.2 (Nat.le_add_left _ _))
abbrev sem1_11 : Fin 1 → DmaSem sig := fun | 0 => cc1_sem11_0 | ⟨_ + 1, h⟩ => absurd h (Nat.not_lt.2 (Nat.le_add_left _ _))

abbrev stage1_12 : Fin 1 → Memref sig .tc .vmem S16x128 .f32 := fun | 0 => Memref.whole cc1_stg12_0 | ⟨_ + 1, h⟩ => absurd h (Nat.not_lt.2 (Nat.le_add_left _ _))
abbrev sem1_12 : Fin 1 → DmaSem sig := fun | 0 => cc1_sem12_0 | ⟨_ + 1, h⟩ => absurd h (Nat.not_lt.2 (Nat.le_add_left _ _))
-- ==== ReferenceIdeal.lean ====
abbrev S20000x81 : Shape := ⟨2, ![20000, 81]⟩
abbrev S20000x4 : Shape := ⟨2, ![20000, 4]⟩
abbrev S_ : Shape := ⟨0, ![]⟩
abbrev S20000 : Shape := ⟨1, ![20000]⟩
abbrev S20000x1 : Shape := ⟨2, ![20000, 1]⟩
abbrev S1620000 : Shape := ⟨1, ![1620000]⟩
abbrev S20000x81x4 : Shape := ⟨3, ![20000, 81, 4]⟩
abbrev S1620000x4 : Shape := ⟨2, ![1620000, 4]⟩
abbrev S1620000x1 : Shape := ⟨2, ![1620000, 1]⟩
abbrev S81 : Shape := ⟨1, ![81]⟩
abbrev S1x81 : Shape := ⟨2, ![1, 81]⟩
abbrev S2000 : Shape := ⟨1, ![2000]⟩
abbrev S2000x1 : Shape := ⟨2, ![2000, 1]⟩
abbrev S1 : Shape := ⟨1, ![1]⟩
abbrev S1x1 : Shape := ⟨2, ![1, 1]⟩
abbrev S2000x4 : Shape := ⟨2, ![2000, 4]⟩
abbrev S1x2000 : Shape := ⟨2, ![1, 2000]⟩
abbrev S2000x2000 : Shape := ⟨2, ![2000, 2000]⟩
abbrev S2000x5 : Shape := ⟨2, ![2000, 5]⟩

abbrev nBuf : Space → Nat
  | .hbm => 280
  | .vmem => 0
  | .smem => 0
  | _ => 0

abbrev hbmTy0_0 (i : Nat) : BufTy := match i % 128 with
  | 0 => ⟨S20000x81, .f32⟩
  | 1 => ⟨S20000x4, .f32⟩
  | 2 => ⟨S_, .f32⟩
  | 3 => ⟨S20000, .f32⟩
  | 4 => ⟨S_, .f32⟩
  | 5 => ⟨S20000, .f32⟩
  | 6 => ⟨S20000, .f32⟩
  | 7 => ⟨S20000x1, .f32⟩
  | 8 => ⟨S20000x81, .f32⟩
  | 9 => ⟨S20000x81, .f32⟩
  | 10 => ⟨S20000x81, .f32⟩
  | 11 => ⟨S_, .f32⟩
  | 12 => ⟨S20000, .f32⟩
  | 13 => ⟨S20000x1, .f32⟩
  | 14 => ⟨S20000x81, .f32⟩
  | 15 => ⟨S20000x81, .f32⟩
  | 16 => ⟨S1620000, .f32⟩
  | 17 => ⟨S20000x81x4, .f32⟩
  | 18 => ⟨S1620000x4, .f32⟩
  | 19 => ⟨S1620000x1, .f32⟩
  | 20 => ⟨S1620000, .f32⟩
  | 21 => ⟨S_, .f32⟩
  | 22 => ⟨S_, .f32⟩
  | 23 => ⟨S_, .f32⟩
  | 24 => ⟨S1620000, .f32⟩
  | 25 => ⟨S1620000, .f32⟩
  | 26 => ⟨S_, .f32⟩
  | 27 => ⟨S1620000, .f32⟩
  | 28 => ⟨S1620000, .f32⟩
  | 29 => ⟨S1620000x1, .f32⟩
  | 30 => ⟨S1620000, .f32⟩
  | 31 => ⟨S_, .f32⟩
  | 32 => ⟨S_, .f32⟩
  | 33 => ⟨S_, .f32⟩
  | 34 => ⟨S1620000, .f32⟩
  | 35 => ⟨S1620000, .f32⟩
  | 36 => ⟨S_, .f32⟩
  | 37 => ⟨S1620000, .f32⟩
  | 38 => ⟨S1620000, .f32⟩
  | 39 => ⟨S1620000x1, .f32⟩
  | 40 => ⟨S1620000, .f32⟩
  | 41 => ⟨S_, .f32⟩
  | 42 => ⟨S_, .f32⟩
  | 43 => ⟨S_, .f32⟩
  | 44 => ⟨S1620000, .f32⟩
  | 45 => ⟨S1620000, .f32⟩
  | 46 => ⟨S_, .f32⟩
  | 47 => ⟨S1620000, .f32⟩
  | 48 => ⟨S1620000, .f32⟩
  | 49 => ⟨S1620000x1, .f32⟩
  | 50 => ⟨S1620000, .f32⟩
  | 51 => ⟨S_, .f32⟩
  | 52 => ⟨S_, .f32⟩
  | 53 => ⟨S_, .f32⟩
  | 54 => ⟨S1620000, .f32⟩
  | 55 => ⟨S1620000, .f32⟩
  | 56 => ⟨S_, .f32⟩
  | 57 => ⟨S1620000, .f32⟩
  | 58 => ⟨S1620000, .f32⟩
  | 59 => ⟨S1620000x1, .f32⟩
  | 60 => ⟨S1620000x1, .f32⟩
  | 61 => ⟨S1620000x1, .f32⟩
  | 62 => ⟨S1620000x1, .f32⟩
  | 63 => ⟨S1620000x4, .f32⟩
  | 64 => ⟨S81, .i32⟩
  | 65 => ⟨S1x81, .i32⟩
  | 66 => ⟨S20000x81, .i32⟩
  | 67 => ⟨S1620000, .i32⟩
  | 68 => ⟨S_, .i32⟩
  | 69 => ⟨S1620000, .i32⟩
  | 70 => ⟨S1620000, .i1⟩
  | 71 => ⟨S_, .f32⟩
  | 72 => ⟨S1620000, .f32⟩
  | 73 => ⟨S1620000, .i1⟩
  | 74 => ⟨S1620000, .i1⟩
  | 75 => ⟨S_, .f32⟩
  | 76 => ⟨S_, .f32⟩
  | 77 => ⟨S1620000, .f32⟩
  | 78 => ⟨S1620000, .f32⟩
  | 79 => ⟨S1620000, .f32⟩
  | 80 => ⟨S_, .f32⟩
  | 81 => ⟨S1620000, .f32⟩
  | 82 => ⟨S1620000, .f32⟩
  | 83 => ⟨S1620000x1, .f32⟩
  | 84 => ⟨S1620000x4, .f32⟩
  | 85 => ⟨S1620000x4, .f32⟩
  | 86 => ⟨S2000, .f32⟩
  | 87 => ⟨S2000, .i32⟩
  | 88 => ⟨S_, .i32⟩
  | 89 => ⟨S2000, .i32⟩
  | 90 => ⟨S2000, .i1⟩
  | 91 => ⟨S_, .i32⟩
  | 92 => ⟨S2000, .i32⟩
  | 93 => ⟨S2000, .i32⟩
  | 94 => ⟨S2000, .i32⟩
  | 95 => ⟨S2000x1, .i32⟩
  | 96 => ⟨S1, .i32⟩
  | 97 => ⟨S_, .i32⟩
  | 98 => ⟨S2000x1, .i32⟩
  | 99 => ⟨S2000x1, .i1⟩
  | 100 => ⟨S1x1, .i32⟩
  | 101 => ⟨S2000x1, .i32⟩
  | 102 => ⟨S2000x1, .i1⟩
  | 103 => ⟨S2000x1, .i1⟩
  | 104 => ⟨S_, .i1⟩
  | 105 => ⟨S2000, .i1⟩
  | 106 => ⟨S2000x4, .f32⟩
  | 107 => ⟨S2000x4, .i1⟩
  | 108 => ⟨S_, .f32⟩
  | 109 => ⟨S2000x4, .f32⟩
  | 110 => ⟨S2000x4, .f32⟩
  | 111 => ⟨S_, .i32⟩
  | 112 => ⟨S2000, .i32⟩
  | 113 => ⟨S2000, .i1⟩
  | 114 => ⟨S_, .i32⟩
  | 115 => ⟨S2000, .i32⟩
  | 116 => ⟨S2000, .i32⟩
  | 117 => ⟨S2000, .i32⟩
  | 118 => ⟨S2000x1, .i32⟩
  | 119 => ⟨S1, .i32⟩
  | 120 => ⟨S_, .i32⟩
  | 121 => ⟨S2000x1, .i32⟩
  | 122 => ⟨S2000x1, .i1⟩
  | 123 => ⟨S1x1, .i32⟩
  | 124 => ⟨S2000x1, .i32⟩
  | 125 => ⟨S2000x1, .i1⟩
  | 126 => ⟨S2000x1, .i1⟩
  | 127 => ⟨S_, .i1⟩
  | _ => ⟨S20000x81, .f32⟩

abbrev hbmTy0_1 (i : Nat) : BufTy := match i % 128 with
  | 0 => ⟨S2000, .i1⟩
  | 1 => ⟨S2000x4, .f32⟩
  | 2 => ⟨S2000x4, .i1⟩
  | 3 => ⟨S_, .f32⟩
  | 4 => ⟨S2000x4, .f32⟩
  | 5 => ⟨S2000x4, .f32⟩
  | 6 => ⟨S_, .i32⟩
  | 7 => ⟨S2000, .i32⟩
  | 8 => ⟨S2000, .i1⟩
  | 9 => ⟨S_, .i32⟩
  | 10 => ⟨S2000, .i32⟩
  | 11 => ⟨S2000, .i32⟩
  | 12 => ⟨S2000, .i32⟩
  | 13 => ⟨S2000x1, .i32⟩
  | 14 => ⟨S1, .i32⟩
  | 15 => ⟨S_, .i32⟩
  | 16 => ⟨S2000x1, .i32⟩
  | 17 => ⟨S2000x1, .i1⟩
  | 18 => ⟨S1x1, .i32⟩
  | 19 => ⟨S2000x1, .i32⟩
  | 20 => ⟨S2000x1, .i1⟩
  | 21 => ⟨S2000x1, .i1⟩
  | 22 => ⟨S_, .i1⟩
  | 23 => ⟨S2000, .i1⟩
  | 24 => ⟨S2000, .i32⟩
  | 25 => ⟨S_, .i32⟩
  | 26 => ⟨S2000, .i32⟩
  | 27 => ⟨S2000, .i32⟩
  | 28 => ⟨S2000x1, .f32⟩
  | 29 => ⟨S2000, .f32⟩
  | 30 => ⟨S2000x1, .f32⟩
  | 31 => ⟨S2000, .f32⟩
  | 32 => ⟨S2000x1, .f32⟩
  | 33 => ⟨S2000, .f32⟩
  | 34 => ⟨S2000x1, .f32⟩
  | 35 => ⟨S2000, .f32⟩
  | 36 => ⟨S2000, .f32⟩
  | 37 => ⟨S_, .f32⟩
  | 38 => ⟨S2000, .f32⟩
  | 39 => ⟨S2000, .f32⟩
  | 40 => ⟨S2000, .f32⟩
  | 41 => ⟨S_, .f32⟩
  | 42 => ⟨S2000, .f32⟩
  | 43 => ⟨S2000, .f32⟩
  | 44 => ⟨S2000, .f32⟩
  | 45 => ⟨S2000x1, .f32⟩
  | 46 => ⟨S1x2000, .f32⟩
  | 47 => ⟨S2000x2000, .f32⟩
  | 48 => ⟨S2000x2000, .f32⟩
  | 49 => ⟨S2000x2000, .f32⟩
  | 50 => ⟨S2000x1, .f32⟩
  | 51 => ⟨S1x2000, .f32⟩
  | 52 => ⟨S2000x2000, .f32⟩
  | 53 => ⟨S2000x2000, .f32⟩
  | 54 => ⟨S2000x2000, .f32⟩
  | 55 => ⟨S2000x1, .f32⟩
  | 56 => ⟨S1x2000, .f32⟩
  | 57 => ⟨S2000x2000, .f32⟩
  | 58 => ⟨S2000x2000, .f32⟩
  | 59 => ⟨S2000x2000, .f32⟩
  | 60 => ⟨S2000x1, .f32⟩
  | 61 => ⟨S1x2000, .f32⟩
  | 62 => ⟨S2000x2000, .f32⟩
  | 63 => ⟨S2000x2000, .f32⟩
  | 64 => ⟨S2000x2000, .f32⟩
  | 65 => ⟨S2000x2000, .f32⟩
  | 66 => ⟨S_, .f32⟩
  | 67 => ⟨S2000x2000, .f32⟩
  | 68 => ⟨S2000x2000, .f32⟩
  | 69 => ⟨S2000x2000, .f32⟩
  | 70 => ⟨S_, .f32⟩
  | 71 => ⟨S2000x2000, .f32⟩
  | 72 => ⟨S2000x2000, .f32⟩
  | 73 => ⟨S2000x2000, .f32⟩
  | 74 => ⟨S2000x1, .f32⟩
  | 75 => ⟨S1x2000, .f32⟩
  | 76 => ⟨S2000x2000, .f32⟩
  | 77 => ⟨S2000x2000, .f32⟩
  | 78 => ⟨S2000x2000, .f32⟩
  | 79 => ⟨S2000x2000, .f32⟩
  | 80 => ⟨S_, .f32⟩
  | 81 => ⟨S2000x2000, .f32⟩
  | 82 => ⟨S2000x2000, .f32⟩
  | 83 => ⟨S2000x2000, .f32⟩
  | 84 => ⟨S_, .f32⟩
  | 85 => ⟨S2000, .f32⟩
  | 86 => ⟨S2000, .i1⟩
  | 87 => ⟨S2000, .i32⟩
  | 88 => ⟨S_, .i32⟩
  | 89 => ⟨S_, .i32⟩
  | 90 => ⟨S2000x2000, .f32⟩
  | 91 => ⟨S2000, .i32⟩
  | 92 => ⟨S_, .i32⟩
  | 93 => ⟨S_, .i32⟩
  | 94 => ⟨S2000, .i1⟩
  | 95 => ⟨S_, .i32⟩
  | 96 => ⟨S_, .i1⟩
  | 97 => ⟨S_, .i32⟩
  | 98 => ⟨S_, .i32⟩
  | 99 => ⟨S_, .i32⟩
  | 100 => ⟨S_, .i32⟩
  | 101 => ⟨S_, .i1⟩
  | 102 => ⟨S_, .i32⟩
  | 103 => ⟨S_, .i32⟩
  | 104 => ⟨S_, .i32⟩
  | 105 => ⟨S_, .i32⟩
  | 106 => ⟨S_, .i32⟩
  | 107 => ⟨S_, .i1⟩
  | 108 => ⟨S_, .i32⟩
  | 109 => ⟨S_, .i32⟩
  | 110 => ⟨S_, .i32⟩
  | 111 => ⟨S_, .i32⟩
  | 112 => ⟨S_, .i32⟩
  | 113 => ⟨S1x2000, .f32⟩
  | 114 => ⟨S2000, .f32⟩
  | 115 => ⟨S_, .f32⟩
  | 116 => ⟨S2000, .f32⟩
  | 117 => ⟨S2000, .i1⟩
  | 118 => ⟨S_, .i32⟩
  | 119 => ⟨S_, .i1⟩
  | 120 => ⟨S_, .i32⟩
  | 121 => ⟨S_, .i32⟩
  | 122 => ⟨S_, .i32⟩
  | 123 => ⟨S_, .i32⟩
  | 124 => ⟨S1, .i1⟩
  | 125 => ⟨S_, .i1⟩
  | 126 => ⟨S2000, .i1⟩
  | 127 => ⟨S2000, .i1⟩
  | _ => ⟨S20000x81, .f32⟩

abbrev hbmTy0_2 (i : Nat) : BufTy := match i % 128 with
  | 0 => ⟨S_, .i32⟩
  | 1 => ⟨S2000, .i32⟩
  | 2 => ⟨S2000, .i1⟩
  | 3 => ⟨S2000, .i1⟩
  | 4 => ⟨S2000, .i1⟩
  | 5 => ⟨S2000, .i1⟩
  | 6 => ⟨S_, .i32⟩
  | 7 => ⟨S_, .i32⟩
  | 8 => ⟨S2000x1, .i1⟩
  | 9 => ⟨S_, .f32⟩
  | 10 => ⟨S_, .f32⟩
  | 11 => ⟨S2000x4, .i1⟩
  | 12 => ⟨S2000x4, .f32⟩
  | 13 => ⟨S2000x4, .f32⟩
  | 14 => ⟨S_, .f32⟩
  | 15 => ⟨S_, .f32⟩
  | 16 => ⟨S2000, .f32⟩
  | 17 => ⟨S2000, .f32⟩
  | 18 => ⟨S2000x1, .f32⟩
  | 19 => ⟨S2000x5, .f32⟩
  | 20 => ⟨S_, .i32⟩
  | 21 => ⟨S_, .i32⟩
  | 22 => ⟨S2000, .i32⟩
  | 23 => ⟨S2000, .i32⟩
  | _ => ⟨S20000x81, .f32⟩

abbrev hbmTy (i : Nat) : BufTy := match i / 128 with
  | 0 => hbmTy0_0 i
  | 1 => hbmTy0_1 i
  | 2 => hbmTy0_2 i
  | _ => ⟨S20000x81, .f32⟩

abbrev bufTy : (tb : Table) → Fin (tcTables nBuf tb) → BufTy
  | .hbm, ⟨i, _⟩ => hbmTy i
  | _, _ => ⟨S20000x81, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_cst_0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst_1 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_cst_2 : Ref sig .tc := ⟨.hbm, 21, rfl⟩
abbrev main_cst_3 : Ref sig .tc := ⟨.hbm, 22, rfl⟩
abbrev main_call0_v0 : Ref sig .tc := ⟨.hbm, 23, rfl⟩
abbrev main_call0_v1 : Ref sig .tc := ⟨.hbm, 24, rfl⟩
abbrev main_call0_v2 : Ref sig .tc := ⟨.hbm, 25, rfl⟩
abbrev main_call0_v3 : Ref sig .tc := ⟨.hbm, 26, rfl⟩
abbrev main_call0_v4 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_cst_4 : Ref sig .tc := ⟨.hbm, 31, rfl⟩
abbrev main_cst_5 : Ref sig .tc := ⟨.hbm, 32, rfl⟩
abbrev main_call1_v0 : Ref sig .tc := ⟨.hbm, 33, rfl⟩
abbrev main_call1_v1 : Ref sig .tc := ⟨.hbm, 34, rfl⟩
abbrev main_call1_v2 : Ref sig .tc := ⟨.hbm, 35, rfl⟩
abbrev main_call1_v3 : Ref sig .tc := ⟨.hbm, 36, rfl⟩
abbrev main_call1_v4 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_cst_6 : Ref sig .tc := ⟨.hbm, 41, rfl⟩
abbrev main_cst_7 : Ref sig .tc := ⟨.hbm, 42, rfl⟩
abbrev main_call2_v0 : Ref sig .tc := ⟨.hbm, 43, rfl⟩
abbrev main_call2_v1 : Ref sig .tc := ⟨.hbm, 44, rfl⟩
abbrev main_call2_v2 : Ref sig .tc := ⟨.hbm, 45, rfl⟩
abbrev main_call2_v3 : Ref sig .tc := ⟨.hbm, 46, rfl⟩
abbrev main_call2_v4 : Ref sig .tc := ⟨.hbm, 47, rfl⟩
abbrev main_v22 : Ref sig .tc := ⟨.hbm, 48, rfl⟩
abbrev main_v23 : Ref sig .tc := ⟨.hbm, 49, rfl⟩
abbrev main_v24 : Ref sig .tc := ⟨.hbm, 50, rfl⟩
abbrev main_cst_8 : Ref sig .tc := ⟨.hbm, 51, rfl⟩
abbrev main_cst_9 : Ref sig .tc := ⟨.hbm, 52, rfl⟩
abbrev main_call3_v0 : Ref sig .tc := ⟨.hbm, 53, rfl⟩
abbrev main_call3_v1 : Ref sig .tc := ⟨.hbm, 54, rfl⟩
abbrev main_call3_v2 : Ref sig .tc := ⟨.hbm, 55, rfl⟩
abbrev main_call3_v3 : Ref sig .tc := ⟨.hbm, 56, rfl⟩
abbrev main_call3_v4 : Ref sig .tc := ⟨.hbm, 57, rfl⟩
abbrev main_v25 : Ref sig .tc := ⟨.hbm, 58, rfl⟩
abbrev main_v26 : Ref sig .tc := ⟨.hbm, 59, rfl⟩
abbrev main_v27 : Ref sig .tc := ⟨.hbm, 60, rfl⟩
abbrev main_v28 : Ref sig .tc := ⟨.hbm, 61, rfl⟩
abbrev main_v29 : Ref sig .tc := ⟨.hbm, 62, rfl⟩
abbrev main_v30 : Ref sig .tc := ⟨.hbm, 63, rfl⟩
abbrev main_v31 : Ref sig .tc := ⟨.hbm, 64, rfl⟩
abbrev main_v32 : Ref sig .tc := ⟨.hbm, 65, rfl⟩
abbrev main_v33 : Ref sig .tc := ⟨.hbm, 66, rfl⟩
abbrev main_v34 : Ref sig .tc := ⟨.hbm, 67, rfl⟩
abbrev main_c : Ref sig .tc := ⟨.hbm, 68, rfl⟩
abbrev main_v35 : Ref sig .tc := ⟨.hbm, 69, rfl⟩
abbrev main_v36 : Ref sig .tc := ⟨.hbm, 70, rfl⟩
abbrev main_cst_10 : Ref sig .tc := ⟨.hbm, 71, rfl⟩
abbrev main_v37 : Ref sig .tc := ⟨.hbm, 72, rfl⟩
abbrev main_v38 : Ref sig .tc := ⟨.hbm, 73, rfl⟩
abbrev main_v39 : Ref sig .tc := ⟨.hbm, 74, rfl⟩
abbrev main_cst_11 : Ref sig .tc := ⟨.hbm, 75, rfl⟩
abbrev main_call4_v0 : Ref sig .tc := ⟨.hbm, 76, rfl⟩
abbrev main_call4_v1 : Ref sig .tc := ⟨.hbm, 77, rfl⟩
abbrev main_v40 : Ref sig .tc := ⟨.hbm, 78, rfl⟩
abbrev main_v41 : Ref sig .tc := ⟨.hbm, 79, rfl⟩
abbrev main_cst_12 : Ref sig .tc := ⟨.hbm, 80, rfl⟩
abbrev main_v42 : Ref sig .tc := ⟨.hbm, 81, rfl⟩
abbrev main_v43 : Ref sig .tc := ⟨.hbm, 82, rfl⟩
abbrev main_v44 : Ref sig .tc := ⟨.hbm, 83, rfl⟩
abbrev main_v45 : Ref sig .tc := ⟨.hbm, 84, rfl⟩
abbrev main_v46 : Ref sig .tc := ⟨.hbm, 85, rfl⟩
abbrev main_values : Ref sig .tc := ⟨.hbm, 86, rfl⟩
abbrev main_indices : Ref sig .tc := ⟨.hbm, 87, rfl⟩
abbrev main_call5_c : Ref sig .tc := ⟨.hbm, 88, rfl⟩
abbrev main_call5_v0 : Ref sig .tc := ⟨.hbm, 89, rfl⟩
abbrev main_call5_v1 : Ref sig .tc := ⟨.hbm, 90, rfl⟩
abbrev main_call5_c_0 : Ref sig .tc := ⟨.hbm, 91, rfl⟩
abbrev main_call5_v2 : Ref sig .tc := ⟨.hbm, 92, rfl⟩
abbrev main_call5_v3 : Ref sig .tc := ⟨.hbm, 93, rfl⟩
abbrev main_call5_v4 : Ref sig .tc := ⟨.hbm, 94, rfl⟩
abbrev main_call5_v5 : Ref sig .tc := ⟨.hbm, 95, rfl⟩
abbrev main_call5_c_1 : Ref sig .tc := ⟨.hbm, 96, rfl⟩
abbrev main_call5_c_2 : Ref sig .tc := ⟨.hbm, 97, rfl⟩
abbrev main_call5_v6 : Ref sig .tc := ⟨.hbm, 98, rfl⟩
abbrev main_call5_v7 : Ref sig .tc := ⟨.hbm, 99, rfl⟩
abbrev main_call5_v8 : Ref sig .tc := ⟨.hbm, 100, rfl⟩
abbrev main_call5_v9 : Ref sig .tc := ⟨.hbm, 101, rfl⟩
abbrev main_call5_v10 : Ref sig .tc := ⟨.hbm, 102, rfl⟩
abbrev main_call5_v11 : Ref sig .tc := ⟨.hbm, 103, rfl⟩
abbrev main_call5_c_3 : Ref sig .tc := ⟨.hbm, 104, rfl⟩
abbrev main_call5_v12 : Ref sig .tc := ⟨.hbm, 105, rfl⟩
abbrev main_call5_v13 : Ref sig .tc := ⟨.hbm, 106, rfl⟩
abbrev main_call5_v14 : Ref sig .tc := ⟨.hbm, 107, rfl⟩
abbrev main_call5_cst : Ref sig .tc := ⟨.hbm, 108, rfl⟩
abbrev main_call5_v15 : Ref sig .tc := ⟨.hbm, 109, rfl⟩
abbrev main_v47 : Ref sig .tc := ⟨.hbm, 110, rfl⟩
abbrev main_call6_c : Ref sig .tc := ⟨.hbm, 111, rfl⟩
abbrev main_call6_v0 : Ref sig .tc := ⟨.hbm, 112, rfl⟩
abbrev main_call6_v1 : Ref sig .tc := ⟨.hbm, 113, rfl⟩
abbrev main_call6_c_0 : Ref sig .tc := ⟨.hbm, 114, rfl⟩
abbrev main_call6_v2 : Ref sig .tc := ⟨.hbm, 115, rfl⟩
abbrev main_call6_v3 : Ref sig .tc := ⟨.hbm, 116, rfl⟩
abbrev main_call6_v4 : Ref sig .tc := ⟨.hbm, 117, rfl⟩
abbrev main_call6_v5 : Ref sig .tc := ⟨.hbm, 118, rfl⟩
abbrev main_call6_c_1 : Ref sig .tc := ⟨.hbm, 119, rfl⟩
abbrev main_call6_c_2 : Ref sig .tc := ⟨.hbm, 120, rfl⟩
abbrev main_call6_v6 : Ref sig .tc := ⟨.hbm, 121, rfl⟩
abbrev main_call6_v7 : Ref sig .tc := ⟨.hbm, 122, rfl⟩
abbrev main_call6_v8 : Ref sig .tc := ⟨.hbm, 123, rfl⟩
abbrev main_call6_v9 : Ref sig .tc := ⟨.hbm, 124, rfl⟩
abbrev main_call6_v10 : Ref sig .tc := ⟨.hbm, 125, rfl⟩
abbrev main_call6_v11 : Ref sig .tc := ⟨.hbm, 126, rfl⟩
abbrev main_call6_c_3 : Ref sig .tc := ⟨.hbm, 127, rfl⟩
abbrev main_call6_v12 : Ref sig .tc := ⟨.hbm, 128, rfl⟩
abbrev main_call6_v13 : Ref sig .tc := ⟨.hbm, 129, rfl⟩
abbrev main_call6_v14 : Ref sig .tc := ⟨.hbm, 130, rfl⟩
abbrev main_call6_cst : Ref sig .tc := ⟨.hbm, 131, rfl⟩
abbrev main_call6_v15 : Ref sig .tc := ⟨.hbm, 132, rfl⟩
abbrev main_v48 : Ref sig .tc := ⟨.hbm, 133, rfl⟩
abbrev main_call7_c : Ref sig .tc := ⟨.hbm, 134, rfl⟩
abbrev main_call7_v0 : Ref sig .tc := ⟨.hbm, 135, rfl⟩
abbrev main_call7_v1 : Ref sig .tc := ⟨.hbm, 136, rfl⟩
abbrev main_call7_c_0 : Ref sig .tc := ⟨.hbm, 137, rfl⟩
abbrev main_call7_v2 : Ref sig .tc := ⟨.hbm, 138, rfl⟩
abbrev main_call7_v3 : Ref sig .tc := ⟨.hbm, 139, rfl⟩
abbrev main_call7_v4 : Ref sig .tc := ⟨.hbm, 140, rfl⟩
abbrev main_call7_v5 : Ref sig .tc := ⟨.hbm, 141, rfl⟩
abbrev main_call7_c_1 : Ref sig .tc := ⟨.hbm, 142, rfl⟩
abbrev main_call7_c_2 : Ref sig .tc := ⟨.hbm, 143, rfl⟩
abbrev main_call7_v6 : Ref sig .tc := ⟨.hbm, 144, rfl⟩
abbrev main_call7_v7 : Ref sig .tc := ⟨.hbm, 145, rfl⟩
abbrev main_call7_v8 : Ref sig .tc := ⟨.hbm, 146, rfl⟩
abbrev main_call7_v9 : Ref sig .tc := ⟨.hbm, 147, rfl⟩
abbrev main_call7_v10 : Ref sig .tc := ⟨.hbm, 148, rfl⟩
abbrev main_call7_v11 : Ref sig .tc := ⟨.hbm, 149, rfl⟩
abbrev main_call7_c_3 : Ref sig .tc := ⟨.hbm, 150, rfl⟩
abbrev main_call7_v12 : Ref sig .tc := ⟨.hbm, 151, rfl⟩
abbrev main_call7_v13 : Ref sig .tc := ⟨.hbm, 152, rfl⟩
abbrev main_call7_c_4 : Ref sig .tc := ⟨.hbm, 153, rfl⟩
abbrev main_call7_v14 : Ref sig .tc := ⟨.hbm, 154, rfl⟩
abbrev main_v49 : Ref sig .tc := ⟨.hbm, 155, rfl⟩
abbrev main_v50 : Ref sig .tc := ⟨.hbm, 156, rfl⟩
abbrev main_v51 : Ref sig .tc := ⟨.hbm, 157, rfl⟩
abbrev main_v52 : Ref sig .tc := ⟨.hbm, 158, rfl⟩
abbrev main_v53 : Ref sig .tc := ⟨.hbm, 159, rfl⟩
abbrev main_v54 : Ref sig .tc := ⟨.hbm, 160, rfl⟩
abbrev main_v55 : Ref sig .tc := ⟨.hbm, 161, rfl⟩
abbrev main_v56 : Ref sig .tc := ⟨.hbm, 162, rfl⟩
abbrev main_v57 : Ref sig .tc := ⟨.hbm, 163, rfl⟩
abbrev main_v58 : Ref sig .tc := ⟨.hbm, 164, rfl⟩
abbrev main_cst_13 : Ref sig .tc := ⟨.hbm, 165, rfl⟩
abbrev main_v59 : Ref sig .tc := ⟨.hbm, 166, rfl⟩
abbrev main_v60 : Ref sig .tc := ⟨.hbm, 167, rfl⟩
abbrev main_v61 : Ref sig .tc := ⟨.hbm, 168, rfl⟩
abbrev main_cst_14 : Ref sig .tc := ⟨.hbm, 169, rfl⟩
abbrev main_v62 : Ref sig .tc := ⟨.hbm, 170, rfl⟩
abbrev main_v63 : Ref sig .tc := ⟨.hbm, 171, rfl⟩
abbrev main_v64 : Ref sig .tc := ⟨.hbm, 172, rfl⟩
abbrev main_v65 : Ref sig .tc := ⟨.hbm, 173, rfl⟩
abbrev main_v66 : Ref sig .tc := ⟨.hbm, 174, rfl⟩
abbrev main_v67 : Ref sig .tc := ⟨.hbm, 175, rfl⟩
abbrev main_v68 : Ref sig .tc := ⟨.hbm, 176, rfl⟩
abbrev main_v69 : Ref sig .tc := ⟨.hbm, 177, rfl⟩
abbrev main_v70 : Ref sig .tc := ⟨.hbm, 178, rfl⟩
abbrev main_v71 : Ref sig .tc := ⟨.hbm, 179, rfl⟩
abbrev main_v72 : Ref sig .tc := ⟨.hbm, 180, rfl⟩
abbrev main_v73 : Ref sig .tc := ⟨.hbm, 181, rfl⟩
abbrev main_v74 : Ref sig .tc := ⟨.hbm, 182, rfl⟩
abbrev main_v75 : Ref sig .tc := ⟨.hbm, 183, rfl⟩
abbrev main_v76 : Ref sig .tc := ⟨.hbm, 184, rfl⟩
abbrev main_v77 : Ref sig .tc := ⟨.hbm, 185, rfl⟩
abbrev main_v78 : Ref sig .tc := ⟨.hbm, 186, rfl⟩
abbrev main_v79 : Ref sig .tc := ⟨.hbm, 187, rfl⟩
abbrev main_v80 : Ref sig .tc := ⟨.hbm, 188, rfl⟩
abbrev main_v81 : Ref sig .tc := ⟨.hbm, 189, rfl⟩
abbrev main_v82 : Ref sig .tc := ⟨.hbm, 190, rfl⟩
abbrev main_v83 : Ref sig .tc := ⟨.hbm, 191, rfl⟩
abbrev main_v84 : Ref sig .tc := ⟨.hbm, 192, rfl⟩
abbrev main_v85 : Ref sig .tc := ⟨.hbm, 193, rfl⟩
abbrev main_cst_15 : Ref sig .tc := ⟨.hbm, 194, rfl⟩
abbrev main_v86 : Ref sig .tc := ⟨.hbm, 195, rfl⟩
abbrev main_v87 : Ref sig .tc := ⟨.hbm, 196, rfl⟩
abbrev main_v88 : Ref sig .tc := ⟨.hbm, 197, rfl⟩
abbrev main_cst_16 : Ref sig .tc := ⟨.hbm, 198, rfl⟩
abbrev main_v89 : Ref sig .tc := ⟨.hbm, 199, rfl⟩
abbrev main_v90 : Ref sig .tc := ⟨.hbm, 200, rfl⟩
abbrev main_v91 : Ref sig .tc := ⟨.hbm, 201, rfl⟩
abbrev main_v92 : Ref sig .tc := ⟨.hbm, 202, rfl⟩
abbrev main_v93 : Ref sig .tc := ⟨.hbm, 203, rfl⟩
abbrev main_v94 : Ref sig .tc := ⟨.hbm, 204, rfl⟩
abbrev main_v95 : Ref sig .tc := ⟨.hbm, 205, rfl⟩
abbrev main_v96 : Ref sig .tc := ⟨.hbm, 206, rfl⟩
abbrev main_v97 : Ref sig .tc := ⟨.hbm, 207, rfl⟩
abbrev main_cst_17 : Ref sig .tc := ⟨.hbm, 208, rfl⟩
abbrev main_v98 : Ref sig .tc := ⟨.hbm, 209, rfl⟩
abbrev main_v99 : Ref sig .tc := ⟨.hbm, 210, rfl⟩
abbrev main_v100 : Ref sig .tc := ⟨.hbm, 211, rfl⟩
abbrev main_cst_18 : Ref sig .tc := ⟨.hbm, 212, rfl⟩
abbrev main_v101 : Ref sig .tc := ⟨.hbm, 213, rfl⟩
abbrev main_v102 : Ref sig .tc := ⟨.hbm, 214, rfl⟩
abbrev main_v103 : Ref sig .tc := ⟨.hbm, 215, rfl⟩
abbrev main_c_19 : Ref sig .tc := ⟨.hbm, 216, rfl⟩
abbrev main_c_20 : Ref sig .tc := ⟨.hbm, 217, rfl⟩
abbrev main_v104_0 : Ref sig .tc := ⟨.hbm, 218, rfl⟩
abbrev main_v104_1 : Ref sig .tc := ⟨.hbm, 219, rfl⟩
abbrev main_v104_2 : Ref sig .tc := ⟨.hbm, 220, rfl⟩
abbrev main_v104_3 : Ref sig .tc := ⟨.hbm, 221, rfl⟩
abbrev main_v104_4 : Ref sig .tc := ⟨.hbm, 222, rfl⟩
abbrev main_while0c_c_28 : Ref sig .tc := ⟨.hbm, 223, rfl⟩
abbrev main_while0c_v111 : Ref sig .tc := ⟨.hbm, 224, rfl⟩
abbrev main_while0b_c_28 : Ref sig .tc := ⟨.hbm, 225, rfl⟩
abbrev main_while0b_v111 : Ref sig .tc := ⟨.hbm, 226, rfl⟩
abbrev main_while0b_v112 : Ref sig .tc := ⟨.hbm, 227, rfl⟩
abbrev main_while0b_c_29 : Ref sig .tc := ⟨.hbm, 228, rfl⟩
abbrev main_while0b_v113 : Ref sig .tc := ⟨.hbm, 229, rfl⟩
abbrev main_while0b_c_30 : Ref sig .tc := ⟨.hbm, 230, rfl⟩
abbrev main_while0b_v114 : Ref sig .tc := ⟨.hbm, 231, rfl⟩
abbrev main_while0b_v115 : Ref sig .tc := ⟨.hbm, 232, rfl⟩
abbrev main_while0b_c_31 : Ref sig .tc := ⟨.hbm, 233, rfl⟩
abbrev main_while0b_c_32 : Ref sig .tc := ⟨.hbm, 234, rfl⟩
abbrev main_while0b_v116 : Ref sig .tc := ⟨.hbm, 235, rfl⟩
abbrev main_while0b_c_33 : Ref sig .tc := ⟨.hbm, 236, rfl⟩
abbrev main_while0b_c_34 : Ref sig .tc := ⟨.hbm, 237, rfl⟩
abbrev main_while0b_v117 : Ref sig .tc := ⟨.hbm, 238, rfl⟩
abbrev main_while0b_c_35 : Ref sig .tc := ⟨.hbm, 239, rfl⟩
abbrev main_while0b_v118 : Ref sig .tc := ⟨.hbm, 240, rfl⟩
abbrev main_while0b_v119 : Ref sig .tc := ⟨.hbm, 241, rfl⟩
abbrev main_while0b_v120 : Ref sig .tc := ⟨.hbm, 242, rfl⟩
abbrev main_while0b_cst_36 : Ref sig .tc := ⟨.hbm, 243, rfl⟩
abbrev main_while0b_v121 : Ref sig .tc := ⟨.hbm, 244, rfl⟩
abbrev main_while0b_v122 : Ref sig .tc := ⟨.hbm, 245, rfl⟩
abbrev main_while0b_c_37 : Ref sig .tc := ⟨.hbm, 246, rfl⟩
abbrev main_while0b_v123 : Ref sig .tc := ⟨.hbm, 247, rfl⟩
abbrev main_while0b_v124 : Ref sig .tc := ⟨.hbm, 248, rfl⟩
abbrev main_while0b_c_38 : Ref sig .tc := ⟨.hbm, 249, rfl⟩
abbrev main_while0b_v125 : Ref sig .tc := ⟨.hbm, 250, rfl⟩
abbrev main_while0b_v126 : Ref sig .tc := ⟨.hbm, 251, rfl⟩
abbrev main_while0b_v127 : Ref sig .tc := ⟨.hbm, 252, rfl⟩
abbrev main_while0b_v128 : Ref sig .tc := ⟨.hbm, 253, rfl⟩
abbrev main_while0b_v129 : Ref sig .tc := ⟨.hbm, 254, rfl⟩
abbrev main_while0b_v130 : Ref sig .tc := ⟨.hbm, 255, rfl⟩
abbrev main_while0b_v131 : Ref sig .tc := ⟨.hbm, 256, rfl⟩
abbrev main_while0b_v132 : Ref sig .tc := ⟨.hbm, 257, rfl⟩
abbrev main_while0b_v133 : Ref sig .tc := ⟨.hbm, 258, rfl⟩
abbrev main_while0b_v134 : Ref sig .tc := ⟨.hbm, 259, rfl⟩
abbrev main_while0b_v135 : Ref sig .tc := ⟨.hbm, 260, rfl⟩
abbrev main_while0b_v136 : Ref sig .tc := ⟨.hbm, 261, rfl⟩
abbrev main_while0b_c_39 : Ref sig .tc := ⟨.hbm, 262, rfl⟩
abbrev main_while0b_v137 : Ref sig .tc := ⟨.hbm, 263, rfl⟩
abbrev main_v105 : Ref sig .tc := ⟨.hbm, 264, rfl⟩
abbrev main_cst_21 : Ref sig .tc := ⟨.hbm, 265, rfl⟩
abbrev main_call8_v0 : Ref sig .tc := ⟨.hbm, 266, rfl⟩
abbrev main_call8_v1 : Ref sig .tc := ⟨.hbm, 267, rfl⟩
abbrev main_call8_v2 : Ref sig .tc := ⟨.hbm, 268, rfl⟩
abbrev main_v106 : Ref sig .tc := ⟨.hbm, 269, rfl⟩
abbrev main_cst_22 : Ref sig .tc := ⟨.hbm, 270, rfl⟩
abbrev main_call9_v0 : Ref sig .tc := ⟨.hbm, 271, rfl⟩
abbrev main_call9_v1 : Ref sig .tc := ⟨.hbm, 272, rfl⟩
abbrev main_v107 : Ref sig .tc := ⟨.hbm, 273, rfl⟩
abbrev main_v108 : Ref sig .tc := ⟨.hbm, 274, rfl⟩
abbrev main_v109 : Ref sig .tc := ⟨.hbm, 275, rfl⟩
abbrev main_c_23 : Ref sig .tc := ⟨.hbm, 276, rfl⟩
abbrev main_call10_v0 : Ref sig .tc := ⟨.hbm, 277, rfl⟩
abbrev main_call10_v1 : Ref sig .tc := ⟨.hbm, 278, rfl⟩
abbrev main_v110 : Ref sig .tc := ⟨.hbm, 279, rfl⟩

abbrev nD : Nat := 1
abbrev τ : Topo := Topo.v7x

variable {F : FTy → Type} [FloatOps F]

abbrev main_while0_count : Scf.Loop 32 := ⟨0#32, 2000#32, 1#32⟩
-- ==== Proof.RefRun.lean ====
/-
  The reference's run: its loop leaves alone every buffer that it does not carry, its arguments end unchanged, and its
  three results read over the loop's last mask and the buffers computed before the loop.
-/
module

public import proofs.«01_k».proof.Proof.Gen.ReferenceIdeal.Run
public import Idealize.ShloMosaic.Lib.Quiescent
public import Idealize.ShloMosaic.PureOps.Ideal
public import Idealize.ShloMosaic.Lib.Tactic.CleanTypes

@[expose] public section

set_option maxRecDepth 16384

noncomputable section

namespace Cert.RefValue

open Idealize.ShloMosaic Idealize.ShloMosaic.TcCoe Idealize.ShloMosaic.StableHlo Idealize.SL.Sem
open Cert.ReferenceIdeal Cert.ReferenceIdeal.Gen Cert.ReferenceIdeal.Value

variable {F : FTy → Type} [FloatOps F]
variable (m : (ℓ : Loc nD τ sig) → Buf (Elt F) ℓ) (ρ : Dev nD → PrngReg) (c : Dev nD)

/-- Every buffer's contents when the loop is entered. -/
def entry : Valuation τ sig (Elt F) := entryContents preI m c

/-- The mask of kept candidates that the loop carries, after `k` trips. -/
abbrev keepAt (k : ℕ) : (⟨S2000, .i1⟩ : BufTy).Contents (Elt F) := atK m k c (Proc.devRef .tc main_v104_4)

/-- A buffer that neither the loop's condition nor its body writes holds, before any trip, what it held at entry. -/
theorem atK_keep (r : Ref sig .tc) (h1 : r ∉ condOps_W) (h2 : r ∉ while0Ops0_W) :
    ∀ k, atK m k c (Proc.devRef .tc r) = entry m c (Proc.devRef .tc r)
  | 0 => rfl
  | k + 1 => by
    rw [show atK m (k + 1) c = afterL bodyI (after condOps (atK m k c)) from rfl]
    simp only [afterL_cons, afterL_nil]
    rw [after_of_writes_sub while0Ops0 _ while0Ops0_writes h2, after_of_writes_sub condOps _ condOps_writes h1, atK_keep r h1 h2 k]

/-- Every buffer's contents when the loop has ended. -/
def loopEnd : Valuation τ sig (Elt F) := after condOps (atK m 2000 c)

theorem loopEnd_keep (r : Ref sig .tc) (h1 : r ∉ condOps_W) (h2 : r ∉ while0Ops0_W) :
    loopEnd m c (Proc.devRef .tc r) = entry m c (Proc.devRef .tc r) := by
  unfold loopEnd; rw [after_of_writes_sub condOps _ condOps_writes h1, atK_keep m c r h1 h2]

theorem loopEnd_mask : loopEnd m c (Proc.devRef .tc main_v104_4) = keepAt m c 2000 :=
  after_of_writes_sub condOps _ condOps_writes (by decide +kernel)

/-- The buffers' contents when the program has ended. -/
abbrev fin : Valuation τ sig (Elt F) := finalContents condOps preI bodyI postI 2000 m c

theorem fin_eq : fin m c = afterL postI (loopEnd m c) := rfl

set_option maxHeartbeats 4000000 in
theorem fin_arg0 : fin m c (Proc.devRef .tc main_arg0) = m ((c.tc : Thread nD τ).loc main_arg0) := by
  rw [fin_eq]
  simp only [afterL_cons, afterL_nil]
  after_reads_simp
  rw [loopEnd_keep m c main_arg0 (by decide +kernel) (by decide +kernel)]
  simp only [entry, entryContents, afterL_cons, afterL_nil]
  after_reads_simp

set_option maxHeartbeats 4000000 in
theorem fin_arg1 : fin m c (Proc.devRef .tc main_arg1) = m ((c.tc : Thread nD τ).loc main_arg1) := by
  rw [fin_eq]
  simp only [afterL_cons, afterL_nil]
  after_reads_simp
  rw [loopEnd_keep m c main_arg1 (by decide +kernel) (by decide +kernel)]
  simp only [entry, entryContents, afterL_cons, afterL_nil]
  after_reads_simp

set_option maxHeartbeats 4000000 in
/-- The third result is the loop's last mask. -/
theorem fin_keep : fin m c (Proc.devRef .tc main_v104_4) = keepAt m c 2000 := by
  rw [fin_eq]
  simp only [afterL_cons, afterL_nil]
  after_reads_simp
  exact loopEnd_mask m c

set_option maxHeartbeats 4000000 in
/-- The second result: the candidates' labels, 0 where a candidate is not kept. -/
theorem fin_labels : fin m c (Proc.devRef .tc main_v110)
    = select (keepAt m c 2000) (entry m c (Proc.devRef .tc main_v49))
        (broadcastInDim S2000 ![] bcast_S_S2000 (id (constantI S_ 32 0#32))) := by
  rw [fin_eq]
  simp only [afterL_cons, afterL_nil]
  after_reads_simp
  rw [loopEnd_mask, loopEnd_keep m c main_v49 (by decide +kernel) (by decide +kernel)]
  rfl

/-- Two arrays side by side depend on nothing but the two arrays. -/
theorem beside_congr {α : Type} {s s' t : Shape} {d : Fin t.rank} {x x' : s.Idx → α} {y y' : s'.Idx → α} (h)
    (hx : x = x') (hy : y = y') : concatenate t d [⟨s, x⟩, ⟨s', y⟩] h = concatenate t d [⟨s, x'⟩, ⟨s', y'⟩] h := by
  subst hx hy; rfl

set_option maxHeartbeats 4000000 in
/-- The first result: the candidates' boxes beside their scores, 0 where a candidate is not kept. -/
theorem fin_dets : fin m c (Proc.devRef .tc main_v109)
    = concatenate S2000x5 1
        [⟨S2000x4, select (broadcastInDim S2000x4 ![0, 1] bcast_S2000x1_S2000x4_0_1 (broadcastInDim S2000x1 ![0] bcast_S2000_S2000x1_0 (keepAt m c 2000)))
            (entry m c (Proc.devRef .tc main_v47)) (broadcastInDim S2000x4 ![] bcast_S_S2000x4 (id (constant S_ .f32 0x00000000#32)))⟩,
         ⟨S2000x1, broadcastInDim S2000x1 ![0] bcast_S2000_S2000x1_0 (select (keepAt m c 2000) (entry m c (Proc.devRef .tc main_values))
            (broadcastInDim S2000 ![] bcast_S_S2000 (id (constant S_ .f32 0x00000000#32))))⟩]
        concatenates_S2000x4_S2000x1_S2000x5_d1 := by
  rw [fin_eq]
  simp only [afterL_cons, afterL_nil]
  after_reads_simp
  refine beside_congr _ ?_ ?_
  · after_reads_simp
    rw [loopEnd_mask, loopEnd_keep m c main_v47 (by decide +kernel) (by decide +kernel)]
    simp -implicitDefEqProofs only [TRef.toBuf, TRef.ofBuf, cast_cast, cast_eq]
  · after_reads_simp
    rw [loopEnd_mask, loopEnd_keep m c main_values (by decide +kernel) (by decide +kernel)]
    simp -implicitDefEqProofs only [TRef.toBuf, TRef.ofBuf, cast_cast, cast_eq]

/-- THE RUN: every execution of the reference terminates, its results read off the fold, its arguments unchanged. -/
theorem run : θ_run (defs (F := F)) (onTc (τ := τ) (main (F := F))) ⟨m, fun _ => 0, ρ⟩
    (fun r => ∀ c : Dev nD,
      r.2.mem ((c.tc : Thread nD τ).loc main_v109) = fin m c (Proc.devRef .tc main_v109)
      ∧ r.2.mem ((c.tc : Thread nD τ).loc main_v110) = fin m c (Proc.devRef .tc main_v110)
      ∧ r.2.mem ((c.tc : Thread nD τ).loc main_v104_4) = fin m c (Proc.devRef .tc main_v104_4)
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨h c main_v109 rfl, h c main_v110 rfl, h c main_v104_4 rfl,
    (h c main_arg0 rfl).trans (fin_arg0 m c), (h c main_arg1 rfl).trans (fin_arg1 m c)⟩) (run_fold m ρ)

/-- The reference's frame: it terminates, its arguments unchanged, and it has no semaphore to leave non-zero. -/
theorem frame : θ_run (defs (F := F)) (onTc (τ := τ) (main (F := F))) ⟨m, fun _ => 0, ρ⟩
    (fun r => (∀ c : Dev nD, r.2.mem ((c.tc : Thread nD τ).loc main_arg0) = m ((c.tc : Thread nD τ).loc main_arg0)
      ∧ r.2.mem ((c.tc : Thread nD τ).loc main_arg1) = m ((c.tc : Thread nD τ).loc main_arg1)) ∧ r.2.sem = fun _ => 0) :=
  (θ_run defs _ _).mono (fun r h => ⟨fun c => (h c).2.2.2, sem_eq_zero_of_no_sems (by decide) _⟩) (run m ρ)

end Cert.RefValue

end
-- ==== Proof.Order.lean ====
/-
  Descending order with ties by position. `order x` lists the positions of the entries of `x` from the greatest down, an
  earlier position first among equal entries: the order in which a stable descending sort, and so a top-k, takes them.
  A position's place in that list is the number of positions ahead of it (`card_ahead`), which is how two such lists are
  compared (`Select.lean`).
-/
module

public import Idealize.ShloMosaic.Lib.SortFacts
public import Idealize.ShloMosaic.Lib.Pointwise
public import Idealize.ShloMosaic.PureOps.Ideal
public import Mathlib.Data.Fintype.Card
public import Mathlib.Data.Finset.Card

@[expose] public section

noncomputable section

namespace Cert.Detect

open Idealize.ShloMosaic

variable {n : ℕ}

/-- Position `k` comes ahead of `k'`: a greater entry, or an equal one further to the left. -/
def Ahead (x : Fin n → EReal) (k k' : Fin n) : Prop := x k' < x k ∨ (x k = x k' ∧ k < k')

theorem Ahead.le {x : Fin n → EReal} {k k' : Fin n} (h : Ahead x k k') : x k' ≤ x k := by
  rcases h with h | h
  · exact h.le
  · exact h.1.ge

theorem Ahead.trans {x : Fin n → EReal} {a b c : Fin n} (h : Ahead x a b) (h' : Ahead x b c) : Ahead x a c := by
  rcases h with h | ⟨h, l⟩ <;> rcases h' with h' | ⟨h', l'⟩
  · exact .inl (h'.trans h)
  · exact .inl (h' ▸ h)
  · exact .inl (h ▸ h')
  · exact .inr ⟨h.trans h', l.trans l'⟩

theorem Ahead.irrefl {x : Fin n → EReal} {a : Fin n} : ¬ Ahead x a a := by
  rintro (h | ⟨-, h⟩)
  · exact lt_irrefl _ h
  · exact lt_irrefl _ h

/-- One position goes into a list already in order, all of whose positions are further to the right. -/
theorem pairwise_insert (x : Fin n → EReal) (R : Fin n → Fin n → Bool) (hR : ∀ k k', R k k' = true ↔ x k' < x k) (a : Fin n)
    (l : List (Fin n)) (hl : l.Pairwise (Ahead x)) (ha : ∀ b ∈ l, a < b) : (insertBefore R a l).Pairwise (Ahead x) := by
  induction l with
  | nil => exact List.pairwise_singleton _ _
  | cons b l ih =>
    have hl' := List.pairwise_cons.1 hl
    unfold insertBefore
    split
    · rename_i hb
      refine List.pairwise_cons.2 ⟨fun c hc => ?_, ih hl'.2 fun c hc => ha c (List.mem_cons_of_mem _ hc)⟩
      rcases List.mem_cons.1 ((perm_insertBefore R a l).mem_iff.1 hc) with h | h
      · subst h; exact .inl ((hR _ _).1 hb)
      · exact hl'.1 c h
    · rename_i hb
      have hab : Ahead x a b := by
        rcases lt_or_eq_of_le (not_lt.1 fun h => hb ((hR _ _).2 h)) with h | h
        · exact .inl h
        · exact .inr ⟨h.symm, ha b List.mem_cons_self⟩
      refine List.pairwise_cons.2 ⟨fun c hc => ?_, hl⟩
      rcases List.mem_cons.1 hc with h | h
      · exact h ▸ hab
      · exact hab.trans (hl'.1 c h)

theorem pairwise_sort (x : Fin n → EReal) (R : Fin n → Fin n → Bool) (hR : ∀ k k', R k k' = true ↔ x k' < x k)
    (l : List (Fin n)) (hl : l.Pairwise (· < ·)) : (stableSort R l).Pairwise (Ahead x) := by
  induction l with
  | nil => exact List.Pairwise.nil
  | cons a l ih =>
    have hl' := List.pairwise_cons.1 hl
    unfold stableSort
    exact pairwise_insert x R hR a _ (ih hl'.2) fun b hb => hl'.1 b ((perm_stableSort R l).mem_iff.1 hb)

/-- The positions of `x` in descending order of their entries, ties by position. -/
def order (x : Fin n → EReal) : Fin n → Fin n := sortedFrom fun k k' => decide (x k' < x k)

theorem order_injective (x : Fin n → EReal) : Function.Injective (order x) := sortedFrom_injective _
theorem order_surjective (x : Fin n → EReal) : Function.Surjective (order x) := sortedFrom_surjective _

/-- Each position of the list is ahead of every later one. -/
theorem ahead_order (x : Fin n → EReal) {i j : Fin n} (h : i < j) : Ahead x (order x i) (order x j) := by
  have hp := List.pairwise_iff_get.1 (pairwise_sort x (fun k k' => decide (x k' < x k)) (fun k k' => decide_eq_true_iff)
    (List.finRange n) (List.pairwise_lt_finRange n))
  exact hp (i.cast (length_sortPositions n _).symm) (j.cast (length_sortPositions n _).symm) h

theorem ahead_order_iff (x : Fin n → EReal) {i j : Fin n} : Ahead x (order x i) (order x j) ↔ i < j := by
  refine ⟨fun h => ?_, ahead_order x⟩
  rcases lt_trichotomy i j with h' | h' | h'
  · exact h'
  · subst h'; exact absurd h Ahead.irrefl
  · exact absurd (h.trans (ahead_order x h')) Ahead.irrefl

open Classical in
/-- The position listed at place `j` has exactly `j` positions ahead of it. -/
theorem card_ahead (x : Fin n → EReal) (j : Fin n) : (Finset.univ.filter fun i => Ahead x i (order x j)).card = j.val := by
  have e : (Finset.univ.filter fun i => Ahead x i (order x j)) = (Finset.Iio j).map ⟨order x, order_injective x⟩ := by
    ext i
    simp only [Finset.mem_filter, Finset.mem_univ, true_and, Finset.mem_map, Finset.mem_Iio, Function.Embedding.coeFn_mk]
    constructor
    · intro h
      obtain ⟨i', rfl⟩ := order_surjective x i
      exact ⟨i', (ahead_order_iff x).1 h, rfl⟩
    · rintro ⟨i', h, rfl⟩
      exact ahead_order x h
  rw [e, Finset.card_map, Fin.card_Iio]

/-! ## A top-k reads `order` -/

theorem gt_beq (a b : EReal) : (Ideal.cmpTotal .gt a b == 1#1) = decide (b < a) := by
  show (BitVec.ofBool (decide (b < a)) == 1#1) = decide (b < a)
  cases decide (b < a) <;> rfl

theorem along_vec {N : ℕ} (j : (⟨1, ![N]⟩ : Shape).Idx) (k : Fin N) : j.along (0 : Fin 1) k = ix1 k := by
  funext a
  match a with
  | ⟨0, _⟩ => exact Function.update_self _ _ _

theorem along_mat {M N : ℕ} (r : Fin M) (c : Fin N) (k : Fin N) : (ix2 r c : (⟨2, ![M, N]⟩ : Shape).Idx).along (1 : Fin 2) k = ix2 r k := by
  funext a
  match a with
  | ⟨0, _⟩ => exact Function.update_of_ne (show (0 : Fin 2) ≠ 1 by decide) _ _
  | ⟨1, _⟩ => exact Function.update_self _ _ _

theorem slice_vec {α : Type} {N K : ℕ} (f : (⟨1, ![N]⟩ : Shape).Idx → α) (h : (⟨1, ![N]⟩ : Shape).Slices (fun _ => 0) ⟨1, ![K]⟩) (hK : K ≤ N) (j : Fin K) :
    extractStridedSlice ⟨1, ![K]⟩ (fun _ => 0) f h (ix1 j) = f (ix1 (j.castLE hK)) := by
  refine congrArg f (funext fun a => Fin.ext ?_)
  match a with
  | ⟨0, _⟩ => exact Nat.zero_add _

theorem slice_mat {α : Type} {M N K : ℕ} (f : (⟨2, ![M, N]⟩ : Shape).Idx → α) (h : (⟨2, ![M, N]⟩ : Shape).Slices (fun _ => 0) ⟨2, ![M, K]⟩) (hK : K ≤ N)
    (r : Fin M) (j : Fin K) : extractStridedSlice ⟨2, ![M, K]⟩ (fun _ => 0) f h (ix2 r j) = f (ix2 r (j.castLE hK)) := by
  refine congrArg f (funext fun a => Fin.ext ?_)
  match a with
  | ⟨0, _⟩ => exact Nat.zero_add _
  | ⟨1, _⟩ => exact Nat.zero_add _

/-- The entries and the places that a top-k of a vector gives. -/
theorem topK_vec {N K : ℕ} (x : (⟨1, ![N]⟩ : Shape).Idx → EReal) (h : (⟨1, ![N]⟩ : Shape).Slices (fun _ => 0) ⟨1, ![K]⟩) (hK : K ≤ N) (j : Fin K) :
    (Host.topK ⟨1, ![K]⟩ 0 (Ideal.cmpTotal .gt) x h).1 (ix1 j) = x (ix1 (order (fun i => x (ix1 i)) (j.castLE hK)))
    ∧ (Host.topK ⟨1, ![K]⟩ 0 (Ideal.cmpTotal .gt) x h).2 (ix1 j) = BitVec.ofNat 32 (order (fun i => x (ix1 i)) (j.castLE hK)).val := by
  have e := along_vec (N := N) (ix1 (j.castLE hK))
  have hs : sortedFrom (fun k k' : Fin N => Ideal.cmpTotal .gt (x ((ix1 (j.castLE hK) : (⟨1, ![N]⟩ : Shape).Idx).along (0 : Fin 1) k))
      (x ((ix1 (j.castLE hK) : (⟨1, ![N]⟩ : Shape).Idx).along (0 : Fin 1) k')) == 1#1) = order fun i => x (ix1 i) := by
    simp only [gt_beq, e, order]
  refine ⟨?_, ?_⟩
  all_goals dsimp only [Host.topK]
  all_goals rw [slice_vec _ h hK]
  · rw [← hs]
    exact congrArg x (e _)
  · rw [← hs]
    exact congrArg (fun i => BitVec.ofNat 32 (i 0).val) (e _)

/-- The entries and the places that a top-k along the rows of a matrix gives. -/
theorem topK_rows {M N K : ℕ} (x : (⟨2, ![M, N]⟩ : Shape).Idx → EReal) (h : (⟨2, ![M, N]⟩ : Shape).Slices (fun _ => 0) ⟨2, ![M, K]⟩) (hK : K ≤ N)
    (r : Fin M) (j : Fin K) :
    (Host.topK ⟨2, ![M, K]⟩ 1 (Ideal.cmpTotal .gt) x h).1 (ix2 r j) = x (ix2 r (order (fun i => x (ix2 r i)) (j.castLE hK)))
    ∧ (Host.topK ⟨2, ![M, K]⟩ 1 (Ideal.cmpTotal .gt) x h).2 (ix2 r j) = BitVec.ofNat 32 (order (fun i => x (ix2 r i)) (j.castLE hK)).val := by
  have e := along_mat (N := N) r (j.castLE hK)
  have hs : sortedFrom (fun k k' : Fin N => Ideal.cmpTotal .gt (x ((ix2 r (j.castLE hK) : (⟨2, ![M, N]⟩ : Shape).Idx).along (1 : Fin 2) k))
      (x ((ix2 r (j.castLE hK) : (⟨2, ![M, N]⟩ : Shape).Idx).along (1 : Fin 2) k')) == 1#1) = order fun i => x (ix2 r i) := by
    simp only [gt_beq, e, order]
  refine ⟨?_, ?_⟩
  all_goals dsimp only [Host.topK]
  all_goals rw [slice_mat _ h hK]
  · rw [← hs]
    exact congrArg x (e _)
  · rw [← hs]
    exact congrArg (fun i => BitVec.ofNat 32 (i 1).val) (e _)

end Cert.Detect

end
-- ==== Proof.Select.lean ====
/-
  Taking the greatest entries of a matrix in two steps. `A` is an `R × C` matrix. One way lists the entries of the whole
  matrix, flattened row by row, in descending order. The other first keeps the `T` greatest of each row, in descending
  order, and lists the entries of the `R × T` matrix so left. If in every row at most `T` entries exceed a threshold, the two
  lists agree, entry for entry and place for place, as long as the entries exceed the threshold, and where one list's entry
  does not, neither does the other's.
-/
module

public import proofs.«01_k».proof.Proof.Order

@[expose] public section

noncomputable section

namespace Cert.Detect

variable {R C T : ℕ}

/-- The matrix flattened row by row. -/
def flat (hC : 0 < C) (A : Fin R → Fin C → EReal) (p : Fin (R * C)) : EReal :=
  A ⟨p.val / C, Nat.div_lt_of_lt_mul (Nat.mul_comm R C ▸ p.isLt)⟩ ⟨p.val % C, Nat.mod_lt _ hC⟩

/-- The row of a place in an `R × T` matrix flattened row by row. -/
def rowOf (q : Fin (R * T)) : Fin R := ⟨q.val / T, Nat.div_lt_of_lt_mul (Nat.mul_comm R T ▸ q.isLt)⟩

/-- The column of a place in an `R × T` matrix flattened row by row. -/
def colOf (hT : 0 < T) (q : Fin (R * T)) : Fin T := ⟨q.val % T, Nat.mod_lt _ hT⟩

variable (hT : 0 < T) (hTC : T ≤ C) (A : Fin R → Fin C → EReal)

/-- The column of `A` from which a place of the rows' `T` greatest entries was taken. -/
def source (q : Fin (R * T)) : Fin C := order (A (rowOf q)) ((colOf hT q).castLE hTC)

/-- The `T` greatest entries of each row, flattened row by row. -/
def kept (q : Fin (R * T)) : EReal := A (rowOf q) (source hT hTC A q)

/-- The place, in the whole matrix flattened, of a place among the rows' greatest. -/
def lift (q : Fin (R * T)) : Fin (R * C) :=
  ⟨q.val / T * C + (source hT hTC A q).val, by
    have h1 : q.val / T < R := (rowOf q).isLt
    have h2 := (source hT hTC A q).isLt
    calc q.val / T * C + (source hT hTC A q).val < q.val / T * C + C := by omega
      _ = (q.val / T + 1) * C := by ring
      _ ≤ R * C := Nat.mul_le_mul_right _ h1⟩

theorem lift_div (q : Fin (R * T)) : (lift hT hTC A q).val / C = q.val / T := by
  have hC : 0 < C := by omega
  show (q.val / T * C + (source hT hTC A q).val) / C = q.val / T
  rw [Nat.mul_comm, Nat.mul_add_div hC, Nat.div_eq_of_lt (source hT hTC A q).isLt, Nat.add_zero]

theorem lift_mod (q : Fin (R * T)) : (lift hT hTC A q).val % C = (source hT hTC A q).val := by
  show (q.val / T * C + (source hT hTC A q).val) % C = _
  rw [Nat.mul_comm, Nat.mul_add_mod, Nat.mod_eq_of_lt (source hT hTC A q).isLt]

theorem flat_lift (hC : 0 < C) (q : Fin (R * T)) : flat hC A (lift hT hTC A q) = kept hT hTC A q := by
  unfold flat kept
  have e1 : ∀ h, (⟨(lift hT hTC A q).val / C, h⟩ : Fin R) = rowOf q := fun _ => Fin.ext (lift_div hT hTC A q)
  have e2 : ∀ h, (⟨(lift hT hTC A q).val % C, h⟩ : Fin C) = source hT hTC A q := fun _ => Fin.ext (lift_mod hT hTC A q)
  rw [e1, e2]

theorem lift_injective : Function.Injective (lift hT hTC A) := by
  intro q q' h
  have h1 : rowOf q = rowOf q' := Fin.ext (by rw [show (rowOf q).val = q.val / T from rfl, ← lift_div hT hTC A q, h, lift_div]; rfl)
  have h2 : source hT hTC A q = source hT hTC A q' := Fin.ext (by rw [← lift_mod, h, lift_mod])
  unfold source at h2
  rw [h1] at h2
  have h3 := congrArg Fin.val (order_injective _ h2)
  have h4 : q.val / T = q'.val / T := congrArg Fin.val h1
  have h5 : q.val % T = q'.val % T := h3
  exact Fin.ext (by rw [← Nat.div_add_mod q.val T, ← Nat.div_add_mod q'.val T, h4, h5])

/-- The lift keeps the order of entries. -/
theorem ahead_lift (hC : 0 < C) {q q' : Fin (R * T)} (h : Ahead (kept hT hTC A) q q') :
    Ahead (flat hC A) (lift hT hTC A q) (lift hT hTC A q') := by
  unfold Ahead
  rw [flat_lift, flat_lift]
  rcases h with h | ⟨h, hq⟩
  · exact .inl h
  refine .inr ⟨h, ?_⟩
  show q.val / T * C + (source hT hTC A q).val < q'.val / T * C + (source hT hTC A q').val
  have hqv : q.val < q'.val := hq
  have hle : q.val / T ≤ q'.val / T := Nat.div_le_div_right hqv.le
  have hs := (source hT hTC A q).isLt
  rcases hle.lt_or_eq with hlt | heq
  · have := Nat.mul_le_mul_right C hlt
    rw [Nat.succ_mul] at this
    omega
  · have hr : rowOf q = rowOf q' := Fin.ext heq
    have hmod : q.val % T < q'.val % T := by
      have e1 := Nat.div_add_mod q.val T
      have e2 := Nat.div_add_mod q'.val T
      rw [heq] at e1
      omega
    have ha := ahead_order (A (rowOf q)) (i := (colOf hT q).castLE hTC) (j := (colOf hT q').castLE hTC) hmod
    have e' : source hT hTC A q' = order (A (rowOf q)) ((colOf hT q').castLE hTC) := by unfold source; rw [hr]
    rw [heq]
    rcases ha with ha | ⟨-, ha⟩
    · exfalso
      unfold kept at h
      rw [e', ← hr] at h
      exact absurd h.symm (ne_of_lt ha)
    · have ha' : (source hT hTC A q).val < (source hT hTC A q').val := by rw [e']; exact ha
      omega

variable (θ : EReal) (hcount : ∀ r, (Finset.univ.filter fun c => θ < A r c).card ≤ T)
include hcount

/-- An entry above the threshold is among its row's `T` greatest. -/
theorem exists_lift (hC : 0 < C) (p : Fin (R * C)) (hp : θ < flat hC A p) : ∃ q, lift hT hTC A q = p := by
  set r : Fin R := ⟨p.val / C, Nat.div_lt_of_lt_mul (Nat.mul_comm R C ▸ p.isLt)⟩ with hr
  set k : Fin C := ⟨p.val % C, Nat.mod_lt _ hC⟩ with hk
  obtain ⟨t, ht⟩ := order_surjective (A r) k
  have htT : t.val < T := by
    by_contra hge
    have hsub : (Finset.Iic t).map ⟨order (A r), order_injective _⟩ ⊆ Finset.univ.filter fun c => θ < A r c := by
      intro c hc
      obtain ⟨s, hs, rfl⟩ := Finset.mem_map.1 hc
      refine Finset.mem_filter.2 ⟨Finset.mem_univ _, ?_⟩
      have hs' : s ≤ t := Finset.mem_Iic.1 hs
      show θ < A r (order (A r) s)
      rcases hs'.lt_or_eq with h | h
      · exact lt_of_lt_of_le (show θ < A r (order (A r) t) by rw [ht]; exact hp) (ahead_order (A r) h).le
      · subst h; rw [ht]; exact hp
    have h1 := Finset.card_le_card hsub
    rw [Finset.card_map, Fin.card_Iic] at h1
    have := hcount r
    omega
  have hq : r.val * T + t.val < R * T := by
    have h1 := Nat.mul_le_mul_right T r.isLt
    rw [Nat.succ_mul] at h1
    omega
  have hdiv : (r.val * T + t.val) / T = r.val := by
    rw [Nat.mul_comm, Nat.mul_add_div hT, Nat.div_eq_of_lt htT, Nat.add_zero]
  have hmod : (r.val * T + t.val) % T = t.val := by
    rw [Nat.mul_comm, Nat.mul_add_mod, Nat.mod_eq_of_lt htT]
  refine ⟨⟨r.val * T + t.val, hq⟩, Fin.ext ?_⟩
  have hsrc : source hT hTC A ⟨r.val * T + t.val, hq⟩ = k := by
    have e1 : (rowOf ⟨r.val * T + t.val, hq⟩ : Fin R) = r := Fin.ext hdiv
    have e2 : ((colOf hT (⟨r.val * T + t.val, hq⟩ : Fin (R * T))).castLE hTC) = t := Fin.ext hmod
    unfold source
    rw [e1, e2, ht]
  show (r.val * T + t.val) / T * C + (source hT hTC A ⟨r.val * T + t.val, hq⟩).val = p.val
  rw [hsrc, hdiv, hr, hk]
  show p.val / C * C + p.val % C = p.val
  rw [Nat.mul_comm]
  exact Nat.div_add_mod p.val C

open Classical in
/-- A place among the rows' greatest whose entry is above the threshold has as many places ahead of it as its lift. -/
theorem card_ahead_lift (hC : 0 < C) (q : Fin (R * T)) (hq : θ < kept hT hTC A q) :
    (Finset.univ.filter fun p => Ahead (flat hC A) p (lift hT hTC A q)).card = (Finset.univ.filter fun q' => Ahead (kept hT hTC A) q' q).card := by
  have e : (Finset.univ.filter fun p => Ahead (flat hC A) p (lift hT hTC A q))
      = (Finset.univ.filter fun q' => Ahead (kept hT hTC A) q' q).map ⟨lift hT hTC A, lift_injective hT hTC A⟩ := by
    ext p
    simp only [Finset.mem_filter, Finset.mem_univ, true_and, Finset.mem_map, Function.Embedding.coeFn_mk]
    constructor
    · intro h
      obtain ⟨q', rfl⟩ := exists_lift hT hTC A θ hcount hC p (lt_of_lt_of_le (by rw [flat_lift]; exact hq) h.le)
      refine ⟨q', ?_, rfl⟩
      obtain ⟨i, rfl⟩ := order_surjective (kept hT hTC A) q
      obtain ⟨i', rfl⟩ := order_surjective (kept hT hTC A) q'
      rcases lt_trichotomy i' i with hi | hi | hi
      · exact ahead_order _ hi
      · subst hi; exact absurd h Ahead.irrefl
      · exact absurd (h.trans (ahead_lift hT hTC A hC (ahead_order _ hi))) Ahead.irrefl
    · rintro ⟨q', h, rfl⟩
      exact ahead_lift hT hTC A hC h
  rw [e, Finset.card_map]

/-- THE TWO LISTS AGREE: where the list of the rows' greatest holds an entry above the threshold, the whole matrix's list
    holds the same entry, taken from the same place. -/
theorem order_eq_lift (hC : 0 < C) (j : ℕ) (hj : j < R * T) (hj' : j < R * C) (h : θ < kept hT hTC A (order (kept hT hTC A) ⟨j, hj⟩)) :
    order (flat hC A) ⟨j, hj'⟩ = lift hT hTC A (order (kept hT hTC A) ⟨j, hj⟩) := by
  classical
  obtain ⟨i, hi⟩ := order_surjective (flat hC A) (lift hT hTC A (order (kept hT hTC A) ⟨j, hj⟩))
  rw [← hi]
  have h1 := card_ahead_lift hT hTC A θ hcount hC _ h
  rw [card_ahead, ← hi, card_ahead] at h1
  exact congrArg _ (Fin.ext h1.symm)

/-- Where it holds an entry not above the threshold, so does the whole matrix's list. -/
theorem not_above (hC : 0 < C) (j : ℕ) (hj : j < R * T) (hj' : j < R * C) (h : ¬ θ < kept hT hTC A (order (kept hT hTC A) ⟨j, hj⟩)) :
    ¬ θ < flat hC A (order (flat hC A) ⟨j, hj'⟩) := by
  classical
  intro hp
  obtain ⟨q, hq⟩ := exists_lift hT hTC A θ hcount hC _ hp
  have hqθ : θ < kept hT hTC A q := by rw [← flat_lift hT hTC A hC, hq]; exact hp
  have h1 := card_ahead_lift hT hTC A θ hcount hC q hqθ
  rw [hq, card_ahead] at h1
  obtain ⟨i, rfl⟩ := order_surjective (kept hT hTC A) q
  rw [card_ahead] at h1
  exact h (by rw [show (⟨j, hj⟩ : Fin (R * T)) = i from Fin.ext h1]; exact hqθ)

end Cert.Detect

end
-- ==== Proof.Spec.lean ====
module

public import proofs.«01_k».proof.Proof.Select
public import Idealize.ShloMosaic.Lib.IdealHost

/-!
# What both programs compute

The scores are the rows' softmax, held back to −1 on the background class and wherever they do not
exceed the threshold. A program picks 2000 places of the score matrix. Each picked place gives a box,
cut to the image and moved aside by its class, and non-maximum suppression goes through the picks
from the first to the last. Here all of this is written as functions of the pick alone; the two
programs differ in how they pick. Two picks that agree wherever the score exceeds the threshold, and
that do not exceed it at the same places otherwise, give the same detections (`dets_congr`).
-/

@[expose] public section

namespace Cert.Detect

open Idealize.ShloMosaic

noncomputable section

/-- The score threshold, the binary fraction next to 0.05. -/
def thr : EReal := Ideal.ofBits .f32 0x3D4CCCCD#32

/-- What stands in place of a score that does not count. -/
def off : EReal := Ideal.ofBits .f32 0xBF800000#32

/-- The seed of the rows' maximum. -/
def seed : EReal := Ideal.ofBits .f32 0xFF800000#32

/-- The overlap from which on a box is suppressed. -/
def half : EReal := Ideal.ofBits .f32 0x3F000000#32

/-- How far apart the boxes of two neighbouring classes are moved. -/
def stride : EReal := Ideal.ofBits .f32 0x45057000#32

/-- The least union of two boxes that is divided by. -/
def tiny : EReal := Ideal.ofBits .f32 0x322BCC77#32

/-- The greatest coordinate in each column: the image's width and height. -/
def cap (c : Fin 4) : EReal := if c.val % 2 = 0 then Ideal.ofBits .f32 0x44A68000#32 else Ideal.ofBits .f32 0x4447C000#32

/-! ## The scores -/

/-- The greatest entry of a row. -/
def peak {n : ℕ} (x : Fin n → EReal) : EReal := Finset.univ.fold max seed x

/-- The softmax of a row. -/
def score {n : ℕ} (x : Fin n → EReal) (k : Fin n) : EReal :=
  Ideal.div (Ideal.exp (x k - peak x)) (∑ k', Ideal.exp (x k' - peak x))

/-- The scores that count. -/
def masked {n : ℕ} (x : Fin n → EReal) (k : Fin n) : EReal := if thr < score x k ∧ k.val ≠ 0 then score x k else off

theorem max_peak {n : ℕ} (x : Fin n → EReal) : max seed (peak x) = peak x :=
  max_eq_right ((Finset.le_fold_max seed).mpr (.inl le_rfl))

theorem thr_eq : thr = ((13421773 / 268435456 : ℝ) : EReal) := by
  simp [thr, Ideal.ofBits, Ideal.ieee, -EReal.coe_mul]; norm_num

theorem off_lt_thr : off < thr := by
  rw [thr_eq, show off = ((-1 : ℝ) : EReal) by simp [off, Ideal.ofBits, Ideal.ieee, -EReal.coe_mul, -EReal.coe_neg]; norm_num]
  exact EReal.coe_lt_coe_iff.mpr (by norm_num)

theorem thr_pos : 0 < thr := by rw [thr_eq]; exact EReal.coe_pos.mpr (by norm_num)

theorem exp_nonneg (x : EReal) : 0 ≤ Ideal.exp x := by
  induction x with
  | bot => exact le_rfl
  | top => exact le_top
  | coe r => exact EReal.coe_nonneg.mpr (Real.exp_pos r).le

/-- Among numbers that are not negative, at most nineteen can each be more than 0.05 of their sum. -/
theorem card_share {n : ℕ} (e : Fin n → EReal) (he : ∀ k, 0 ≤ e k) :
    (Finset.univ.filter fun k => thr < Ideal.div (e k) (∑ k', e k')).card ≤ 19 := by
  have hle : ∀ k, e k ≤ ∑ k', e k' := fun k => Finset.single_le_sum (fun k _ => he k) (Finset.mem_univ k)
  have h0 : 0 ≤ ∑ k', e k' := Finset.sum_nonneg fun k _ => he k
  generalize hT : ∑ k', e k' = T at *
  induction T with
  | bot => exact absurd h0 (by simp)
  | top =>
    rw [Finset.filter_false_of_mem]
    · simp
    · intro k _
      simp only [Ideal.div, EReal.top_ne_zero, if_false, EReal.inv_top, mul_zero]
      exact not_lt.mpr thr_pos.le
  | coe t =>
    by_cases ht : t = 0
    · subst ht
      rw [Finset.filter_false_of_mem]
      · simp
      · intro k _
        have : e k = 0 := le_antisymm (hle k) (he k)
        simp [Ideal.div, this]
    · have htp : 0 < t := lt_of_le_of_ne (EReal.coe_nonneg.mp h0) (Ne.symm ht)
      have hf : ∀ k, ∃ f : ℝ, e k = f := fun k =>
        ⟨(e k).toReal, (EReal.coe_toReal (ne_top_of_le_ne_top (EReal.coe_ne_top t) (hle k)) (ne_bot_of_le_ne_bot (by simp) (he k))).symm⟩
      choose f hf using hf
      have hsum : ∑ k, f k = t := by
        have h1 : ((∑ k, f k : ℝ) : EReal) = ∑ k, (f k : EReal) := by
          induction (Finset.univ : Finset (Fin n)) using Finset.induction_on with
          | empty => simp
          | insert a s ha ih => rw [Finset.sum_insert ha, Finset.sum_insert ha, EReal.coe_add, ih]
        rw [← EReal.coe_eq_coe_iff, h1, ← hT]
        exact Finset.sum_congr rfl fun k _ => (hf k).symm
      have hf0 : ∀ k, 0 ≤ f k := fun k => EReal.coe_nonneg.mp (hf k ▸ he k)
      by_contra hgt
      have h20 : 20 ≤ (Finset.univ.filter fun k => thr < Ideal.div (e k) t).card := by omega
      have hbig : ∀ k ∈ Finset.univ.filter (fun k => thr < Ideal.div (e k) t), 13421773 / 268435456 * t ≤ f k := by
        intro k hk
        have h1 := (Finset.mem_filter.mp hk).2
        simp only [Ideal.div, EReal.coe_eq_zero, ht, if_false, hf k, thr_eq] at h1
        rw [← EReal.coe_inv, ← EReal.coe_mul, EReal.coe_lt_coe_iff, ← div_eq_mul_inv, lt_div_iff₀ htp] at h1
        exact h1.le
      have h2 := Finset.card_nsmul_le_sum _ f _ hbig
      have h3 : ∑ k ∈ Finset.univ.filter (fun k => thr < Ideal.div (e k) t), f k ≤ t :=
        hsum ▸ Finset.sum_le_sum_of_subset_of_nonneg (Finset.subset_univ _) fun k _ _ => hf0 k
      rw [nsmul_eq_mul] at h2
      have h4 : (20 : ℝ) ≤ ((Finset.univ.filter fun k => thr < Ideal.div (e k) t).card : ℝ) := by exact_mod_cast h20
      nlinarith [mul_le_mul_of_nonneg_right h4 (by positivity : (0:ℝ) ≤ 13421773 / 268435456 * t)]

/-- At most nineteen scores of a row exceed the threshold. -/
theorem card_masked {n : ℕ} (x : Fin n → EReal) : (Finset.univ.filter fun k => thr < masked x k).card ≤ 19 := by
  refine le_trans (Finset.card_le_card ?_) (card_share (fun k => Ideal.exp (x k - peak x)) fun k => exp_nonneg _)
  intro k hk
  have h1 := (Finset.mem_filter.mp hk).2
  refine Finset.mem_filter.mpr ⟨Finset.mem_univ _, ?_⟩
  unfold masked at h1
  split at h1
  · exact h1
  · exact absurd h1 (not_lt.mpr off_lt_thr.le)

/-! ## Boxes and suppression -/

/-- The row of a place of the score matrix flattened. -/
def rowAt (p : Fin 1620000) : Fin 20000 := ⟨p.val / 81, by omega⟩

/-- The class of a place of the score matrix flattened. -/
def classAt (p : Fin 1620000) : Fin 81 := ⟨p.val % 81, by omega⟩

/-- The score matrix flattened row by row. -/
def scores (X : Fin 20000 → Fin 81 → EReal) (p : Fin 1620000) : EReal := masked (X (rowAt p)) (classAt p)

/-- The box of a place, cut to the image. -/
def box (B : Fin 20000 → Fin 4 → EReal) (p : Fin 1620000) (c : Fin 4) : EReal := min (cap c) (max 0 (B (rowAt p) c))

/-- The class as a machine word. -/
def word (p : Fin 1620000) : BitVec 32 := BitVec.ofNat 32 (p.val % 81)

/-- The box of a place, moved aside by its class. -/
def moved (B : Fin 20000 → Fin 4 → EReal) (p : Fin 1620000) (c : Fin 4) : EReal :=
  box B p c + FloatOps.sitofp (F := Ideal) .f32 (word p) * stride

/-- A box's extent in the direction of columns `a` and `b`. -/
def area (u : Fin 4 → EReal) : EReal := max (u 2 - u 0) 0 * max (u 3 - u 1) 0

/-- The area two boxes share. -/
def inter (u v : Fin 4 → EReal) : EReal :=
  max (min (u 2) (v 2) - max (u 0) (v 0)) 0 * max (min (u 3) (v 3) - max (u 1) (v 1)) 0

/-- The overlap of two boxes: what they share, divided by what they cover together. -/
def overlap (u v : Fin 4 → EReal) : EReal := Ideal.div (inter u v) (max (area u + area v - inter u v) tiny)

/-- Suppression over given boxes: before step `t`, is pick `j` still in? At step `t` pick `t`, if it
    is in, throws out the later ones that overlap with it by more than half. -/
def Keep (start : Fin 2000 → Prop) (u : Fin 2000 → Fin 4 → EReal) : ℕ → Fin 2000 → Prop
  | 0, j => start j
  | t + 1, j => Keep start u t j ∧ ∀ ht : t < 2000, Keep start u t ⟨t, ht⟩ → t < j.val → ¬ half < overlap (u ⟨t, ht⟩) (u j)

theorem Keep.start {start : Fin 2000 → Prop} {u : Fin 2000 → Fin 4 → EReal} {t : ℕ} {j : Fin 2000} (h : Keep start u t j) : start j := by
  induction t with
  | zero => exact h
  | succ t ih => exact ih h.1

/-- Suppression depends only on the boxes of the picks that start in. -/
theorem Keep.congr {start start' : Fin 2000 → Prop} {u u' : Fin 2000 → Fin 4 → EReal} (hs : ∀ j, start j ↔ start' j)
    (hu : ∀ j, start j → u j = u' j) (t : ℕ) (j : Fin 2000) : Keep start u t j ↔ Keep start' u' t j := by
  induction t generalizing j with
  | zero => exact hs j
  | succ t ih =>
    constructor
    · rintro ⟨h1, h2⟩
      refine ⟨(ih j).mp h1, fun ht h3 hlt => ?_⟩
      have h4 := (ih ⟨t, ht⟩).mpr h3
      rw [← hu _ h4.start, ← hu _ h1.start]
      exact h2 ht h4 hlt
    · rintro ⟨h1, h2⟩
      have h1' := (ih j).mpr h1
      refine ⟨h1', fun ht h3 hlt => ?_⟩
      rw [hu _ h3.start, hu _ h1'.start]
      exact h2 ht ((ih _).mp h3) hlt

variable (X : Fin 20000 → Fin 81 → EReal) (B : Fin 20000 → Fin 4 → EReal) (pick : Fin 2000 → Fin 1620000)

/-- The picks whose score exceeds the threshold. -/
def Valid (j : Fin 2000) : Prop := thr < scores X (pick j)

/-- The picks that are in when suppression has gone through all of them. -/
def Final (j : Fin 2000) : Prop := Keep (Valid X pick) (fun j => moved B (pick j)) 2000 j

open Classical in
/-- The detections' labels. -/
def labels (j : Fin 2000) : BitVec 32 := if Final X B pick j then word (pick j) else 0#32

open Classical in
/-- The detections: four coordinates and the score. -/
def dets (j : Fin 2000) (c : Fin 5) : EReal :=
  if Final X B pick j then (if h : c.val < 4 then box B (pick j) ⟨c.val, h⟩ else scores X (pick j)) else 0

open Classical in
/-- Which detections count. -/
def valids (j : Fin 2000) : BitVec 1 := BitVec.ofBool (decide (Final X B pick j))

variable {X pick} {pick' : Fin 2000 → Fin 1620000}

theorem final_congr (hv : ∀ j, Valid X pick j ↔ Valid X pick' j) (hp : ∀ j, Valid X pick j → pick j = pick' j) (j : Fin 2000) :
    Final X B pick j ↔ Final X B pick' j :=
  Keep.congr hv (fun j hj => by rw [hp j hj]) 2000 j

theorem labels_congr (hv : ∀ j, Valid X pick j ↔ Valid X pick' j) (hp : ∀ j, Valid X pick j → pick j = pick' j) :
    labels X B pick = labels X B pick' := by
  funext j
  unfold labels
  by_cases h : Final X B pick j
  · rw [if_pos h, if_pos ((final_congr B hv hp j).mp h), hp j h.start]
  · rw [if_neg h, if_neg (fun h' => h ((final_congr B hv hp j).mpr h'))]

theorem dets_congr (hv : ∀ j, Valid X pick j ↔ Valid X pick' j) (hp : ∀ j, Valid X pick j → pick j = pick' j) :
    dets X B pick = dets X B pick' := by
  funext j c
  unfold dets
  by_cases h : Final X B pick j
  · rw [if_pos h, if_pos ((final_congr B hv hp j).mp h), hp j h.start]
  · rw [if_neg h, if_neg (fun h' => h ((final_congr B hv hp j).mpr h'))]

theorem valids_congr (hv : ∀ j, Valid X pick j ↔ Valid X pick' j) (hp : ∀ j, Valid X pick j → pick j = pick' j) :
    valids X B pick = valids X B pick' := by
  funext j
  unfold valids
  congr 1
  exact decide_eq_decide.mpr (final_congr B hv hp j)

/-! ## The two picks -/

variable (X)

/-- Picking from the whole score matrix. -/
def pickAll (j : Fin 2000) : Fin 1620000 := order (scores X) ⟨j.val, by omega⟩

/-- The places among the rows' nineteen greatest that are picked. -/
def pickKept (j : Fin 2000) : Fin 380000 :=
  order (kept (R := 20000) (C := 81) (T := 19) (by norm_num) (by norm_num) fun r => masked (X r)) ⟨j.val, by omega⟩

/-- Picking from the rows' nineteen greatest. -/
def pickTop (j : Fin 2000) : Fin 1620000 :=
  lift (R := 20000) (C := 81) (T := 19) (by norm_num) (by norm_num) (fun r => masked (X r)) (pickKept X j)

theorem scores_pickTop (j : Fin 2000) :
    scores X (pickTop X j) = kept (R := 20000) (C := 81) (T := 19) (by norm_num) (by norm_num) (fun r => masked (X r)) (pickKept X j) :=
  flat_lift (R := 20000) (C := 81) (T := 19) _ _ (fun r => masked (X r)) (by norm_num) (pickKept X j)

theorem pick_eq (j : Fin 2000) (h : Valid X (pickTop X) j) : pickTop X j = pickAll X j := by
  refine (order_eq_lift (R := 20000) (C := 81) (T := 19) (by norm_num) (by norm_num) (fun r => masked (X r)) thr (fun r => card_masked _) (by norm_num) j.val (by omega) (by omega) ?_).symm
  unfold Valid at h
  rw [scores_pickTop] at h
  exact h

theorem valid_iff (j : Fin 2000) : Valid X (pickTop X) j ↔ Valid X (pickAll X) j := by
  by_cases h : Valid X (pickTop X) j
  · refine ⟨fun _ => ?_, fun _ => h⟩
    unfold Valid at h ⊢
    rw [← pick_eq X j h]; exact h
  · refine ⟨fun h' => absurd h' h, fun h' => absurd h' ?_⟩
    refine not_above (R := 20000) (C := 81) (T := 19) (by norm_num) (by norm_num) (fun r => masked (X r)) thr (fun r => card_masked _) (by norm_num) j.val (by omega) (by omega) ?_
    unfold Valid at h
    rw [scores_pickTop] at h
    exact h

end

end Cert.Detect
-- ==== Proof.Words.lean ====
module

public import proofs.«01_k».proof.Proof.Spec
public import Idealize.ShloMosaic.Lib.Pointwise
public import Idealize.ShloMosaic.Lib.WordCmp

/-!
# Yes-no words

Both programs decide with one-bit words. Here such a word is read as the proposition it stands for.
-/

@[expose] public section

noncomputable section

namespace Cert.Detect

open Idealize.ShloMosaic Idealize.ShloMosaic.Pointwise

/-- Choosing by a decided proposition. -/
theorem select_decide {α : Type} (p : Prop) [Decidable p] (a b : α) :
    Scalar.select (BitVec.ofBool (decide p)) a b = if p then a else b := by
  by_cases h : p <;> simp [h, Scalar.select]

/-- Both of two decided propositions. -/
theorem andi_decide (p q : Prop) [Decidable p] [Decidable q] :
    IntOp.andi (BitVec.ofBool (decide p)) (BitVec.ofBool (decide q)) = BitVec.ofBool (decide (p ∧ q)) := by
  by_cases h : p <;> by_cases h' : q <;> simp [h, h', IntOp.andi]

/-- A class number below 2³² is not the word zero unless it is zero. -/
theorem ne_zero_word (k : ℕ) (hk : k < 2 ^ 32) :
    IntOp.cmpi .ne (BitVec.ofNat 32 k) 0#32 = BitVec.ofBool (decide (k ≠ 0)) := by
  unfold IntOp.cmpi
  by_cases h : k = 0
  · subst h; simp
  · have : (BitVec.ofNat 32 k != 0#32) = true := by
      rw [bne_iff_ne]
      intro e
      have := congrArg BitVec.toNat e
      rw [BitVec.toNat_ofNat, Nat.mod_eq_of_lt hk] at this
      exact h this
    simp only [this, ne_eq, h, not_false_eq_true, decide_true]

/-- The choice between a score and its stand-in, as both programs write it. -/
theorem select_masked (s : EReal) (k : ℕ) (hk : k < 2 ^ 32) :
    Scalar.select (IntOp.andi (BitVec.ofBool (decide (Ideal.ofBits FTy.f32 1028443341#32 < s)))
        (IntOp.cmpi .ne (BitVec.ofNat 32 k) 0#32)) s (Ideal.ofBits FTy.f32 3212836864#32)
      = if thr < s ∧ k ≠ 0 then s else off := by
  rw [ne_zero_word k hk, andi_decide, select_decide]; rfl

end Cert.Detect
-- ==== Proof.Takes.lean ====
module

public import proofs.«01_k».proof.Proof.Words
public import Idealize.ShloMosaic.Lib.Routing.OpsSearch
public import Idealize.ShloMosaic.Lib.Routing.OpsPair
public import Idealize.ShloMosaic.Lib.Routing.Ops

/-!
# Looking up by a number

A lookup counts a negative number from the table's end and gives a fill value where the number is out of range.
Where the number is the word of a place in the table neither happens: the lookup gives the entry at that place. The
division of two words that are not negative is the division of the numbers they stand for.
-/

@[expose] public section

noncomputable section

namespace Cert.Detect

open Idealize.ShloMosaic Idealize.ShloMosaic.Pointwise

/-- A word that is not negative is not counted from the end. -/
theorem from_start {w a : BitVec 32} {k : ℕ} (hw : w = BitVec.ofNat 32 k) (hk : k < 2 ^ 31) :
    Scalar.select (IntOp.cmpi .slt w 0#32) a w = w :=
  Routing.wrap_of_lt w a (by rw [hw, BitVec.toNat_ofNat, Nat.mod_eq_of_lt (by omega)]; exact hk)

/-- A fold of ones by «and» is one. -/
theorem fold_ones {ι : Type} (s : Finset ι) : Finset.fold IntOp.andi (1#1) (fun _ => 1#1) s = 1#1 := by
  classical
  induction s using Finset.induction_on with
  | empty => rfl
  | insert a s ha ih => rw [Finset.fold_insert ha, ih]; rfl

/-- Where the number is in range, the lookup is the entry gathered. -/
theorem taken {ι α : Type} [Fintype ι] {w a hi : BitVec 32} {k n : ℕ} (hw : w = BitVec.ofNat 32 k) (hhi : hi = BitVec.ofNat 32 n)
    (hk : k ≤ n) (hn : n < 2 ^ 31) (g fill : α) :
    Scalar.select (Finset.fold IntOp.andi (1#1) (fun _ : ι => IntOp.andi
        (IntOp.cmpi .sge (Scalar.select (IntOp.cmpi .slt w 0#32) a w) 0#32)
        (IntOp.cmpi .sle (Scalar.select (IntOp.cmpi .slt w 0#32) a w) hi)) Finset.univ) g fill = g := by
  rw [from_start hw (by omega), hw, hhi, WordCmp.cmpi_sge_ofNat (w := 32) (a := k) (b := 0) (by omega) (by omega),
    WordCmp.cmpi_sle_ofNat (w := 32) (by omega) (by omega), andi_decide, decide_eq_true (by omega : 0 ≤ k ∧ k ≤ n)]
  rw [show BitVec.ofBool true = 1#1 from rfl, fold_ones]
  rfl

/-- Floor division of two words that are not negative. -/
theorem floor_word {x y : BitVec 32} {a b : ℕ} (hx : x = BitVec.ofNat 32 a) (hy : y = BitVec.ofNat 32 b) (ha : a < 2 ^ 31) (h0 : 0 < b)
    (hb : b < 2 ^ 31) :
    Scalar.select (IntOp.andi
        (IntOp.cmpi .ne (if x = 0 then 0 else if BitVec.msb x = true then -1 else (1 : BitVec 32))
          (if y = 0 then 0 else if BitVec.msb y = true then -1 else (1 : BitVec 32)))
        (IntOp.cmpi .ne (IntOp.remsi .host x y) 0#32))
      (IntOp.subi (IntOp.divsi .host x y) 1#32) (IntOp.divsi .host x y) = BitVec.ofNat 32 (a / b) := by
  subst hx; subst hy
  rw [Routing.remsi_word .host ha h0 hb, Routing.divsi_word .host ha h0 hb, Routing.msb_ofNat32 ha, Routing.msb_ofNat32 hb,
    if_neg (Routing.ofNat32_ne_zero h0 (by omega))]
  have e : IntOp.andi (IntOp.cmpi .ne (if BitVec.ofNat 32 a = 0 then 0 else if false = true then -1 else (1 : BitVec 32))
      (if false = true then -1 else 1)) (IntOp.cmpi .ne (BitVec.ofNat 32 (a % b)) 0#32) = 0#1 := by
    rcases Nat.eq_zero_or_pos a with h | h
    · subst h; rw [Nat.zero_mod]; decide
    · rw [if_neg (Routing.ofNat32_ne_zero h (by omega))]
      simp only [Bool.false_eq_true, if_false]
      rw [show IntOp.cmpi .ne (1 : BitVec 32) 1 = 0#1 by decide]
      exact BitVec.zero_and
  rw [e]
  rfl

end Cert.Detect
-- ==== Proof.KernelPick.lean ====
module

public import proofs.«01_k».proof.Proof.Gen.KernelIdeal.Frame
public import proofs.«01_k».proof.Proof.Takes
public import Idealize.ShloMosaic.Lib.Pointwise
public import Idealize.ShloMosaic.Lib.StableHlo.ReadAt

/-!
# The kernel program's picks

Between the two regions the host picks the nineteen greatest scores of each row, then the 2000 greatest of those. It
finds each pick's row by a division, its class by a lookup among the columns the rows' nineteen came from, and its box by
a lookup of the row. Each stretch of host operations is read here at one pick, over the contents it is entered with.
-/

@[expose] public section

set_option maxRecDepth 8192

noncomputable section

namespace Cert.KernelHost

open Idealize.ShloMosaic Idealize.ShloMosaic.TcCoe Idealize.ShloMosaic.StableHlo Idealize.SL.Sem Idealize.ShloMosaic.Pointwise
open Cert.KernelIdeal Cert.KernelIdeal.Gen Cert.Detect

variable (V : Valuation τ sig (Elt Ideal)) (X : Fin 20000 → Fin 81 → EReal)

/-- The rows' nineteen greatest scores and the columns they came from. -/
theorem rows_at (A : S20000x81.Idx → EReal) (hA : ∀ r k, A (ix2 r k) = masked (X r) k) (r : Fin 20000) (t : Fin 19) :
    (Host.topK S20000x19 1 (Ideal.cmpTotal .gt) A sliceFits_S20000x81_S20000x19).1 (ix2 r t)
      = masked (X r) (order (masked (X r)) (t.castLE (by norm_num)))
    ∧ (Host.topK S20000x19 1 (Ideal.cmpTotal .gt) A sliceFits_S20000x81_S20000x19).2 (ix2 r t)
      = BitVec.ofNat 32 (order (masked (X r)) (t.castLE (by norm_num))).val := by
  have e : (fun i => A (ix2 r i)) = masked (X r) := funext fun k => hA r k
  have h := topK_rows A sliceFits_S20000x81_S20000x19 (by norm_num) r t
  rw [e, hA] at h
  exact h

/-- Which column each of the rows' nineteen greatest came from. -/
theorem columns_at (hV : ∀ r k, (V (Proc.devRef .tc main_v0) : S20000x81.Idx → EReal) (ix2 r k) = masked (X r) k) (r : Fin 20000) (t : Fin 19) :
    (after hostOps1 V (Proc.devRef .tc main_indices) : S20000x19.Idx → BitVec 32) (ix2 r t)
      = BitVec.ofNat 32 (order (masked (X r)) (t.castLE (by norm_num))).val := by
  after_reads_at
  exact (rows_at X (V (Proc.devRef .tc main_v0)) hV r t).2

/-- The scores and the places of the picks. -/
theorem picks_at (hV : ∀ r k, (V (Proc.devRef .tc main_v0) : S20000x81.Idx → EReal) (ix2 r k) = masked (X r) k) (j : Fin 2000) :
    (after hostOps1 V (Proc.devRef .tc main_values_0) : S2000.Idx → EReal) (ix1 j) = scores X (pickTop X j)
    ∧ (after hostOps1 V (Proc.devRef .tc main_indices_1) : S2000.Idx → BitVec 32) (ix1 j) = BitVec.ofNat 32 (pickKept X j).val := by
  have e : (fun i : Fin (20000 * 19) => (Host.topK S20000x19 1 (Ideal.cmpTotal .gt) (V (Proc.devRef .tc main_v0) : S20000x81.Idx → EReal)
      sliceFits_S20000x81_S20000x19).1 (ix2 (⟨i.val / 19, by omega⟩ : Fin 20000) (⟨i.val % 19, by omega⟩ : Fin 19)))
      = kept (R := 20000) (C := 81) (T := 19) (by norm_num) (by norm_num) fun r => masked (X r) :=
    funext fun i => (rows_at X (V (Proc.devRef .tc main_v0)) hV _ _).1
  have h := topK_vec (fun i : S380000.Idx => (Host.topK S20000x19 1 (Ideal.cmpTotal .gt) (V (Proc.devRef .tc main_v0) : S20000x81.Idx → EReal)
      sliceFits_S20000x81_S20000x19).1 (ix2 (⟨(i 0).val / 19, by have : (i 0).val < 380000 := (i 0).isLt; omega⟩ : Fin 20000) (⟨(i 0).val % 19, by omega⟩ : Fin 19)))
      sliceFits_S380000_S2000 (by norm_num) j
  refine ⟨?_, ?_⟩
  · after_reads_at
    refine h.1.trans ?_
    rw [scores_pickTop]
    unfold pickKept
    rw [← e]
    rfl
  · after_reads_at
    refine h.2.trans ?_
    unfold pickKept
    rw [← e]
    rfl

/-- The divisor of the picks' places. -/
theorem divisor_at : (after hostOps1 V (Proc.devRef .tc main_c) : S_.Idx → BitVec 32) ix0 = BitVec.ofNat 32 19 := by
  after_reads_at

/-- The picks' rows. -/
theorem row_at (j : Fin 2000) (q : Fin 380000) (hi : (V (Proc.devRef .tc main_indices_1) : S2000.Idx → BitVec 32) (ix1 j) = BitVec.ofNat 32 q.val)
    (hc : (V (Proc.devRef .tc main_c) : S_.Idx → BitVec 32) ix0 = BitVec.ofNat 32 19) :
    (after hostOps1_1 V (Proc.devRef .tc main_v2) : S2000.Idx → BitVec 32) (ix1 j) = BitVec.ofNat 32 (q.val / 19) := by
  after_reads_at
  exact floor_word hi hc (by omega) (by norm_num) (by norm_num)

/-- The columns flattened. -/
theorem column_at (p : Fin 380000) :
    (after hostOps1_2 V (Proc.devRef .tc main_v3) : S380000.Idx → BitVec 32) (ix1 p)
      = (V (Proc.devRef .tc main_indices) : S20000x19.Idx → BitVec 32) (ix2 (⟨p.val / 19, by omega⟩ : Fin 20000) (⟨p.val % 19, by omega⟩ : Fin 19)) := by
  after_reads_at

/-- The picks' classes. -/
theorem class_at (j : Fin 2000) (q : Fin 380000) (hi : (V (Proc.devRef .tc main_indices_1) : S2000.Idx → BitVec 32) (ix1 j) = BitVec.ofNat 32 q.val) :
    (after hostOps1_3 V (Proc.devRef .tc main_v4) : S2000.Idx → BitVec 32) (ix1 j)
      = (V (Proc.devRef .tc main_v3) : S380000.Idx → BitVec 32) (ix1 q) := by
  after_reads_at
  refine (taken hi (n := 379999) rfl (by omega) (by norm_num) _ _).trans ?_
  refine Routing.take_ap _ rfl rfl rfl rfl _ _ j q.isLt (by omega) ?_
  pointwise
  exact (from_start hi (by omega)).trans hi

/-- The picks' boxes. -/
theorem box_at (j : Fin 2000) (r : Fin 20000) (hi : (V (Proc.devRef .tc main_v2) : S2000.Idx → BitVec 32) (ix1 j) = BitVec.ofNat 32 r.val) (k : Fin 4) :
    (after hostOps1_4 V (Proc.devRef .tc main_v5) : S2000x4.Idx → EReal) (ix2 j k)
      = (V (Proc.devRef .tc main_arg1) : S20000x4.Idx → EReal) (ix2 r k) := by
  after_reads_at
  refine (taken hi (n := 19999) rfl (by omega) (by norm_num) _ _).trans ?_
  refine Routing.gather_row _ rfl rfl rfl rfl rfl _ _ j k r ?_ (by norm_num)
  pointwise
  exact (from_start hi (by omega)).trans hi

end Cert.KernelHost
-- ==== Proof.Region0.lean ====
module

public import proofs.«01_k».proof.Proof.Gen.KernelIdeal.Frame
public import proofs.«01_k».proof.Proof.Words
public import Idealize.ShloMosaic.Lib.Pointwise
public import Idealize.ShloMosaic.Lib.Pipeline.ValueKit.Geometry

/-!
# The first region: masked class scores

The first region works through the logits in ten blocks of 2000 rows. What it leaves at a row and a column is the masked
score of that row and column.
-/

@[expose] public section

set_option maxRecDepth 8192

noncomputable section

namespace Cert.KernelArr

open Idealize.ShloMosaic Idealize.ShloMosaic.TcCoe Idealize.SL.Sem Idealize.ShloMosaic.Pointwise
open Cert.KernelIdeal Cert.KernelIdeal.Gen Cert.Detect

/-- One block: each row's masked scores. -/
theorem block_at (x : Vec Ideal S2000x81 .f32) (r : Fin 2000) (k : Fin 81) :
    (k0_pay1 x : S2000x81.Idx → EReal) (ix2 r k) = masked (fun k => x (ix2 r k)) k := by
  unfold k0_pay1
  pointwise
  exact select_masked _ k.val (by omega)

variable (m : (ℓ : Loc nD τ sig) → Buf (Elt Ideal) ℓ) (ρ : Dev nD → PrngReg)

theorem hz : (![0, 0] : Fin 2 → Nat) = fun _ => 0 := funext fun a => by fin_cases a <;> rfl

theorem idx0 : ∀ t : Fin cfg0.N, win0_0.index t = ![t.val, 0] := (by decide +kernel : ∀ t : Fin grid0.N, _)
theorem idx1 : ∀ t : Fin cfg0.N, win0_1.index t = ![t.val, 0] := (by decide +kernel : ∀ t : Fin grid0.N, _)

/-- The array the first region leaves. -/
theorem scores_arr (c : Dev nD) : (dat0 (V0 m ρ) c).arrAt 1 cfg0.N
    = fun i : S20000x81.Idx => masked (fun k => (m ((c : Thread nD τ).loc main_arg0) : S20000x81.Idx → EReal) (ix2 (i 0) k)) (i 1) := by
  refine (dat0 (V0 m ρ) c).arrAt_eq_of_covers 1 _ (by decide +kernel) fun t hf y => ?_
  blk_simp
  rw [after0_1]
  unfold out0_1
  rw [View.canon_unit_zero hz, View.ld_unit_zero hz]
  have hy : y = ix2 (y 0) (y 1) := (eq_ix2 y)
  rw [hy]
  refine (block_at _ (y 0) (y 1)).trans ?_
  unfold iblk0
  blk_simp [idx0, idx1]
  have e1 : ((win0_1.blk t).view.emb (ix2 (y 0) (y 1)) : S20000x81.Idx) 1 = y 1 := Fin.ext (by blk_simp [idx1])
  have e0 : ∀ k : Fin 81, ((win0_0.blk t).view.emb (ix2 (y 0) k) : S20000x81.Idx)
      = ix2 (((win0_1.blk t).view.emb (ix2 (y 0) (y 1)) : S20000x81.Idx) 0) k := fun k => by
    funext a
    match a with
    | ⟨0, _⟩ => exact Fin.ext (by blk_simp [idx0, idx1])
    | ⟨1, _⟩ => exact Fin.ext (by blk_simp [idx0])
  have e : (fun k : Fin 81 => (m ((c : Thread nD τ).loc main_arg0) : S20000x81.Idx → EReal) ((win0_0.blk t).view.emb (ix2 (y 0) k)))
      = fun k => (m ((c : Thread nD τ).loc main_arg0) : S20000x81.Idx → EReal)
          (ix2 (((win0_1.blk t).view.emb (ix2 (y 0) (y 1)) : S20000x81.Idx) 0) k) :=
    funext fun k => congrArg (m ((c : Thread nD τ).loc main_arg0) : S20000x81.Idx → EReal) (e0 k)
  exact congr (congrArg masked e) e1.symm

/-- The same at a row and a column, of the contents after the first region. -/
theorem scores_at (c : Dev nD) (r : Fin 20000) (k : Fin 81) :
    (W1 m ρ c (Proc.devRef .tc main_v0) : S20000x81.Idx → EReal) (ix2 r k)
      = masked (fun k => (m ((c : Thread nD τ).loc main_arg0) : S20000x81.Idx → EReal) (ix2 r k)) k :=
  congrFun ((W1_arr m ρ c 1).trans (scores_arr m ρ c)) (ix2 r k)

end Cert.KernelArr
-- ==== Proof.Suppress.lean ====
module

public import proofs.«01_k».proof.Proof.Gen.KernelIdeal.Frame
public import Idealize.ShloMosaic.Lib.Pipeline.Value
public import Idealize.ShloMosaic.Lib.VecWindow
public import Idealize.ShloMosaic.Lib.Tactic

/-!
# What the suppression kernel leaves in its output blocks

The kernel holds one number per pick, 1 while the pick is in and 0 once it is out, and rewrites all of them
in each of the loop's 2000 trips. Here the loop is read as a recursion on arrays (`keepFrom`), and each
output block as one expression over the input blocks and the recursion's last array.
-/

@[expose] public section

set_option maxRecDepth 8192

noncomputable section

namespace Cert.Suppress

open Idealize.ShloMosaic Idealize.ShloMosaic.TcCoe Idealize.SL.Sem
open Cert.KernelIdeal Cert.KernelIdeal.Gen

variable {F : FTy → Type} [FloatOps F]

/-- What one trip makes of the array of ins and outs. -/
def keepStep (v31 v32 v33 v34 v37 : FVec F S16x128 .f32) (k : Fin k1_t1_loop.trips) (K : FVec F S16x128 .f32) : FVec F S16x128 .f32 :=
  k1_pay24 v32 v34 v37 (Scf.iv 0#32 1#32 k.val) K (k1_pay5 k1_pay23 0#32 1#32 k K)
    (k1_pay6 (k1_pay21 v32 v34 v37) k1_pay23 0#32 1#32 k) (k1_pay7 v31 v33 k1_pay23 0#32 1#32 k) (k1_pay8 v32 v34 k1_pay23 0#32 1#32 k)

/-- The array of ins and outs after the first trips. -/
def keepFrom (v31 v32 v33 v34 v37 K0 : FVec F S16x128 .f32) : ℕ → FVec F S16x128 .f32
  | 0 => K0
  | n + 1 => if h : n < k1_t1_loop.trips then keepStep v31 v32 v33 v34 v37 ⟨n, h⟩ (keepFrom v31 v32 v33 v34 v37 K0 n) else keepFrom v31 v32 v33 v34 v37 K0 n

/-- The array of ins and outs after all the trips, over the input blocks. -/
def keepEnd (x0 x1 x2 x3 x4 : Vec F S16x128 .f32) (x5 : Vec F S16x128 .i32) : FVec F S16x128 .f32 :=
  keepFrom (k1_pay16 x0 x5) (k1_pay17 x1 x5) (k1_pay18 x2 x5) (k1_pay19 x3 x5) (k1_pay20 x0 x2 x5) (k1_pay22 (k1_pay13 x4)) 2000

theorem hz : (![0, 0] : Fin 2 → Nat) = fun _ => 0 := funext fun a => by fin_cases a <;> rfl

section Loop

variable (𝒱 : Variants) (c : Dev nD) (bd : Option 𝒱.V) (arg0 : Memref sig .tc .vmem S16x128 .f32) (harg0 : arg0.IsWhole) (arg1 : Memref sig .tc .vmem S16x128 .f32) (harg1 : arg1.IsWhole) (arg2 : Memref sig .tc .vmem S16x128 .f32) (harg2 : arg2.IsWhole) (arg3 : Memref sig .tc .vmem S16x128 .f32) (harg3 : arg3.IsWhole) (arg4 : Memref sig .tc .vmem S16x128 .f32) (harg4 : arg4.IsWhole) (arg5 : Memref sig .tc .vmem S16x128 .i32) (harg5 : arg5.IsWhole) (arg6 : Memref sig .tc .vmem S16x128 .f32) (harg6 : arg6.IsWhole) (arg7 : Memref sig .tc .vmem S16x128 .f32) (harg7 : arg7.IsWhole) (arg8 : Memref sig .tc .vmem S16x128 .f32) (harg8 : arg8.IsWhole) (arg9 : Memref sig .tc .vmem S16x128 .f32) (harg9 : arg9.IsWhole) (arg10 : Memref sig .tc .vmem S16x128 .f32) (harg10 : arg10.IsWhole) (arg11 : Memref sig .tc .vmem S16x128 .i32) (harg11 : arg11.IsWhole) (arg12 : Memref sig .tc .vmem S16x128 .f32) (harg12 : arg12.IsWhole) (arg13 : Memref sig .tc .vmem S16x128 .f32) (harg13 : arg13.IsWhole)
variable (v5 v11 v17 v23 v25 v31 v32 v33 v34 v37 : FVec F S16x128 .f32)

theorem trip_eq (k : Fin k1_t1_loop.trips) (f : BufTy.Contents (Elt F) arg13.view.ty) :
    tripL_k1_t1 (F := F) 𝒱 c bd arg0 harg0 arg1 harg1 arg2 harg2 arg3 harg3 arg4 harg4 arg5 harg5 arg6 harg6 arg7 harg7 arg8 harg8 arg9 harg9 arg10 harg10 arg11 harg11 arg12 harg12 arg13 harg13 v5 v11 v17 v23 v25 v31 v32 v33 v34 v37 k f
      = [⟨Rect.unit ![0, 0] S16x128.size inb_S16x128_S16x128_0_0,
          keepStep v31 v32 v33 v34 v37 k (View.readAt (Elt F) arg13.view (Rect.unit ![0, 0] S16x128.size inb_S16x128_S16x128_0_0).toLoadRect f)⟩] := by
  unfold tripL_k1_t1 trip_k1_t1
  dsimp only
  sl_unfold_words
  rfl

theorem loop_eq (G : BufTy.Contents (Elt F) arg13.view.ty) (n : ℕ) (hn : n ≤ k1_t1_loop.trips) :
    View.readAt (Elt F) arg13.view (Rect.unit ![0, 0] S16x128.size inb_S16x128_S16x128_0_0).toLoadRect
        (arg13.view.writes (Elt F) G (pb_k1_t1 (F := F) 𝒱 c bd arg0 harg0 arg1 harg1 arg2 harg2 arg3 harg3 arg4 harg4 arg5 harg5 arg6 harg6 arg7 harg7 arg8 harg8 arg9 harg9 arg10 harg10 arg11 harg11 arg12 harg12 arg13 harg13 v5 v11 v17 v23 v25 v31 v32 v33 v34 v37 G n))
      = keepFrom v31 v32 v33 v34 v37 (View.readAt (Elt F) arg13.view (Rect.unit ![0, 0] S16x128.size inb_S16x128_S16x128_0_0).toLoadRect G) n := by
  induction n with
  | zero => rfl
  | succ n ih =>
    have hlt : n < k1_t1_loop.trips := hn
    rw [pb_k1_t1_succ (k := ⟨n, hlt⟩), trip_eq, List.singleton_append]
    refine (View.readAt_writes_full arg13.view G _ _ _ _).trans ?_
    show _ = if h : n < k1_t1_loop.trips then _ else _
    rw [dif_pos hlt, ih (Nat.le_of_lt hlt)]

/-- The loop's buffer read after the loop, when the array before the loop was stored whole. -/
theorem after_loop (K0 : Vec F S16x128 .f32) (n : ℕ) (hn : n ≤ k1_t1_loop.trips) :
    arg13.view.readCov (pb_k1_t1 (F := F) 𝒱 c bd arg0 harg0 arg1 harg1 arg2 harg2 arg3 harg3 arg4 harg4 arg5 harg5 arg6 harg6 arg7 harg7 arg8 harg8 arg9 harg9 arg10 harg10 arg11 harg11 arg12 harg12 arg13 harg13 v5 v11 v17 v23 v25 v31 v32 v33 v34 v37
          (arg13.view.writes (Elt F) arg13.view.junk [⟨Rect.unit ![0, 0] S16x128.size inb_S16x128_S16x128_0_0, K0⟩]) n
        ++ [⟨Rect.unit ![0, 0] S16x128.size inb_S16x128_S16x128_0_0, K0⟩])
        (Rect.unit ![0, 0] S16x128.size inb_S16x128_S16x128_0_0).toLoadRect
      = keepFrom v31 v32 v33 v34 v37 K0 n := by
  unfold View.readCov
  rw [View.writes_append, loop_eq (n := n) (hn := hn),
    View.readAt_writes_full]

end Loop

theorem trips_eq : Scf.trips k1_t1_loop.lb k1_t1_loop.ub k1_t1_loop.st = 2000 := by decide

section Outputs

variable (c : Dev nD) (arg0 : Memref sig .tc .vmem S16x128 .f32) (harg0 : arg0.IsWhole) (arg1 : Memref sig .tc .vmem S16x128 .f32) (harg1 : arg1.IsWhole) (arg2 : Memref sig .tc .vmem S16x128 .f32) (harg2 : arg2.IsWhole) (arg3 : Memref sig .tc .vmem S16x128 .f32) (harg3 : arg3.IsWhole) (arg4 : Memref sig .tc .vmem S16x128 .f32) (harg4 : arg4.IsWhole) (arg5 : Memref sig .tc .vmem S16x128 .i32) (harg5 : arg5.IsWhole) (arg6 : Memref sig .tc .vmem S16x128 .f32) (harg6 : arg6.IsWhole) (arg7 : Memref sig .tc .vmem S16x128 .f32) (harg7 : arg7.IsWhole) (arg8 : Memref sig .tc .vmem S16x128 .f32) (harg8 : arg8.IsWhole) (arg9 : Memref sig .tc .vmem S16x128 .f32) (harg9 : arg9.IsWhole) (arg10 : Memref sig .tc .vmem S16x128 .f32) (harg10 : arg10.IsWhole) (arg11 : Memref sig .tc .vmem S16x128 .i32) (harg11 : arg11.IsWhole) (arg12 : Memref sig .tc .vmem S16x128 .f32) (harg12 : arg12.IsWhole) (arg13 : Memref sig .tc .vmem S16x128 .f32) (harg13 : arg13.IsWhole)
variable (x0 x1 x2 x3 x4 : Vec F S16x128 .f32) (x5 : Vec F S16x128 .i32)

/-- The output block of the boxes' left edges. -/
theorem out_6 : out1_A_6 (F := F) c arg0 harg0 arg1 harg1 arg2 harg2 arg3 harg3 arg4 harg4 arg5 harg5 arg6 harg6 arg7 harg7 arg8 harg8 arg9 harg9 arg10 harg10 arg11 harg11 arg12 harg12 arg13 harg13 x0 x1 x2 x3 x4 x5 = k1_pay26 (k1_pay9 x0) (keepEnd x0 x1 x2 x3 x4 x5) := by
  unfold out1_A_6
  rw [View.read_writes_eq_canon _ _ _ (cover1_A_6 c arg0 harg0 arg1 harg1 arg2 harg2 arg3 harg3 arg4 harg4 arg5 harg5 arg6 harg6 arg7 harg7 arg8 harg8 arg9 harg9 arg10 harg10 arg11 harg11 arg12 harg12 arg13 harg13 x0 x1 x2 x3 x4 x5)]
  unfold kernelRun1_A
  dsimp only
  sl_unfold_words
  rw [View.canon_unit_zero hz]
  simp only [View.readAt_eq_ld, harg0.read_unread, harg1.read_unread, harg2.read_unread, harg3.read_unread, harg4.read_unread, harg5.read_unread, View.ld_unit_zero (S := S16x128) hz, trips_eq]
  rw [after_loop]
  · rfl
  · exact trips_eq.ge

/-- The output block of the boxes' top edges. -/
theorem out_7 : out1_A_7 (F := F) c arg0 harg0 arg1 harg1 arg2 harg2 arg3 harg3 arg4 harg4 arg5 harg5 arg6 harg6 arg7 harg7 arg8 harg8 arg9 harg9 arg10 harg10 arg11 harg11 arg12 harg12 arg13 harg13 x0 x1 x2 x3 x4 x5 = k1_pay27 (k1_pay10 x1) (keepEnd x0 x1 x2 x3 x4 x5) := by
  unfold out1_A_7
  rw [View.read_writes_eq_canon _ _ _ (cover1_A_7 c arg0 harg0 arg1 harg1 arg2 harg2 arg3 harg3 arg4 harg4 arg5 harg5 arg6 harg6 arg7 harg7 arg8 harg8 arg9 harg9 arg10 harg10 arg11 harg11 arg12 harg12 arg13 harg13 x0 x1 x2 x3 x4 x5)]
  unfold kernelRun1_A
  dsimp only
  sl_unfold_words
  rw [View.canon_unit_zero hz]
  simp only [View.readAt_eq_ld, harg0.read_unread, harg1.read_unread, harg2.read_unread, harg3.read_unread, harg4.read_unread, harg5.read_unread, View.ld_unit_zero (S := S16x128) hz, trips_eq]
  rw [after_loop]
  · rfl
  · exact trips_eq.ge

/-- The output block of the boxes' right edges. -/
theorem out_8 : out1_A_8 (F := F) c arg0 harg0 arg1 harg1 arg2 harg2 arg3 harg3 arg4 harg4 arg5 harg5 arg6 harg6 arg7 harg7 arg8 harg8 arg9 harg9 arg10 harg10 arg11 harg11 arg12 harg12 arg13 harg13 x0 x1 x2 x3 x4 x5 = k1_pay28 (k1_pay11 x2) (keepEnd x0 x1 x2 x3 x4 x5) := by
  unfold out1_A_8
  rw [View.read_writes_eq_canon _ _ _ (cover1_A_8 c arg0 harg0 arg1 harg1 arg2 harg2 arg3 harg3 arg4 harg4 arg5 harg5 arg6 harg6 arg7 harg7 arg8 harg8 arg9 harg9 arg10 harg10 arg11 harg11 arg12 harg12 arg13 harg13 x0 x1 x2 x3 x4 x5)]
  unfold kernelRun1_A
  dsimp only
  sl_unfold_words
  rw [View.canon_unit_zero hz]
  simp only [View.readAt_eq_ld, harg0.read_unread, harg1.read_unread, harg2.read_unread, harg3.read_unread, harg4.read_unread, harg5.read_unread, View.ld_unit_zero (S := S16x128) hz, trips_eq]
  rw [after_loop]
  · rfl
  · exact trips_eq.ge

/-- The output block of the boxes' bottom edges. -/
theorem out_9 : out1_A_9 (F := F) c arg0 harg0 arg1 harg1 arg2 harg2 arg3 harg3 arg4 harg4 arg5 harg5 arg6 harg6 arg7 harg7 arg8 harg8 arg9 harg9 arg10 harg10 arg11 harg11 arg12 harg12 arg13 harg13 x0 x1 x2 x3 x4 x5 = k1_pay29 (k1_pay12 x3) (keepEnd x0 x1 x2 x3 x4 x5) := by
  unfold out1_A_9
  rw [View.read_writes_eq_canon _ _ _ (cover1_A_9 c arg0 harg0 arg1 harg1 arg2 harg2 arg3 harg3 arg4 harg4 arg5 harg5 arg6 harg6 arg7 harg7 arg8 harg8 arg9 harg9 arg10 harg10 arg11 harg11 arg12 harg12 arg13 harg13 x0 x1 x2 x3 x4 x5)]
  unfold kernelRun1_A
  dsimp only
  sl_unfold_words
  rw [View.canon_unit_zero hz]
  simp only [View.readAt_eq_ld, harg0.read_unread, harg1.read_unread, harg2.read_unread, harg3.read_unread, harg4.read_unread, harg5.read_unread, View.ld_unit_zero (S := S16x128) hz, trips_eq]
  rw [after_loop]
  · rfl
  · exact trips_eq.ge

/-- The output block of the scores. -/
theorem out_10 : out1_A_10 (F := F) c arg0 harg0 arg1 harg1 arg2 harg2 arg3 harg3 arg4 harg4 arg5 harg5 arg6 harg6 arg7 harg7 arg8 harg8 arg9 harg9 arg10 harg10 arg11 harg11 arg12 harg12 arg13 harg13 x0 x1 x2 x3 x4 x5 = k1_pay1 (k1_pay13 x4) (k1_pay25 (keepEnd x0 x1 x2 x3 x4 x5)) := by
  unfold out1_A_10
  rw [View.read_writes_eq_canon _ _ _ (cover1_A_10 c arg0 harg0 arg1 harg1 arg2 harg2 arg3 harg3 arg4 harg4 arg5 harg5 arg6 harg6 arg7 harg7 arg8 harg8 arg9 harg9 arg10 harg10 arg11 harg11 arg12 harg12 arg13 harg13 x0 x1 x2 x3 x4 x5)]
  unfold kernelRun1_A
  dsimp only
  sl_unfold_words
  rw [View.canon_unit_zero hz]
  simp only [View.readAt_eq_ld, harg0.read_unread, harg1.read_unread, harg2.read_unread, harg3.read_unread, harg4.read_unread, harg5.read_unread, View.ld_unit_zero (S := S16x128) hz, trips_eq]
  rw [after_loop]
  · rfl
  · exact trips_eq.ge

/-- The output block of the labels. -/
theorem out_11 : out1_A_11 (F := F) c arg0 harg0 arg1 harg1 arg2 harg2 arg3 harg3 arg4 harg4 arg5 harg5 arg6 harg6 arg7 harg7 arg8 harg8 arg9 harg9 arg10 harg10 arg11 harg11 arg12 harg12 arg13 harg13 x0 x1 x2 x3 x4 x5 = k1_pay2 (k1_pay14 (F := F) x5) (k1_pay25 (keepEnd x0 x1 x2 x3 x4 x5)) := by
  unfold out1_A_11
  rw [View.read_writes_eq_canon _ _ _ (cover1_A_11 c arg0 harg0 arg1 harg1 arg2 harg2 arg3 harg3 arg4 harg4 arg5 harg5 arg6 harg6 arg7 harg7 arg8 harg8 arg9 harg9 arg10 harg10 arg11 harg11 arg12 harg12 arg13 harg13 x0 x1 x2 x3 x4 x5)]
  unfold kernelRun1_A
  dsimp only
  sl_unfold_words
  rw [View.canon_unit_zero hz]
  simp only [View.readAt_eq_ld, harg0.read_unread, harg1.read_unread, harg2.read_unread, harg3.read_unread, harg4.read_unread, harg5.read_unread, View.ld_unit_zero (S := S16x128) hz, trips_eq]
  rw [after_loop]
  · rfl
  · exact trips_eq.ge

/-- The output block of which picks are in at the end. -/
theorem out_12 : out1_A_12 (F := F) c arg0 harg0 arg1 harg1 arg2 harg2 arg3 harg3 arg4 harg4 arg5 harg5 arg6 harg6 arg7 harg7 arg8 harg8 arg9 harg9 arg10 harg10 arg11 harg11 arg12 harg12 arg13 harg13 x0 x1 x2 x3 x4 x5 = k1_pay3 (k1_pay25 (keepEnd x0 x1 x2 x3 x4 x5)) := by
  unfold out1_A_12
  rw [View.read_writes_eq_canon _ _ _ (cover1_A_12 c arg0 harg0 arg1 harg1 arg2 harg2 arg3 harg3 arg4 harg4 arg5 harg5 arg6 harg6 arg7 harg7 arg8 harg8 arg9 harg9 arg10 harg10 arg11 harg11 arg12 harg12 arg13 harg13 x0 x1 x2 x3 x4 x5)]
  unfold kernelRun1_A
  dsimp only
  sl_unfold_words
  rw [View.canon_unit_zero hz]
  simp only [View.readAt_eq_ld, harg0.read_unread, harg1.read_unread, harg2.read_unread, harg3.read_unread, harg4.read_unread, harg5.read_unread, View.ld_unit_zero (S := S16x128) hz, trips_eq]
  rw [after_loop]
  · rfl
  · exact trips_eq.ge

end Outputs

end Cert.Suppress
-- ==== Proof.Region1.lean ====
module

public import proofs.«01_k».proof.Proof.Gen.KernelIdeal.Frame
public import proofs.«01_k».proof.Proof.Suppress
public import Idealize.ShloMosaic.Lib.Pointwise
public import Idealize.ShloMosaic.Lib.Pipeline.ValueKit.Geometry

/-!
# The second region: the suppressed arrays

The second region has one grid point, whose blocks are the whole arrays. What it leaves in each of its seven result
arrays is the array the suppression loop's end gives, over the six arrays it is entered with.
-/

@[expose] public section

set_option maxRecDepth 8192

noncomputable section

namespace Cert.KernelArr

open Idealize.ShloMosaic Idealize.ShloMosaic.TcCoe Idealize.SL.Sem Idealize.ShloMosaic.Pointwise
open Cert.KernelIdeal Cert.KernelIdeal.Gen Cert.Suppress

variable {F : FTy → Type} [FloatOps F]
variable (m : (ℓ : Loc nD τ sig) → Buf (Elt F) ℓ) (ρ : Dev nD → PrngReg)

/-- The arrays the second region is entered with. -/
abbrev in0 (c : Dev nD) : Vec F S16x128 .f32 := W19 m ρ c (Proc.devRef .tc main_v9)
abbrev in1 (c : Dev nD) : Vec F S16x128 .f32 := W19 m ρ c (Proc.devRef .tc main_v13)
abbrev in2 (c : Dev nD) : Vec F S16x128 .f32 := W19 m ρ c (Proc.devRef .tc main_v17)
abbrev in3 (c : Dev nD) : Vec F S16x128 .f32 := W19 m ρ c (Proc.devRef .tc main_v21)
abbrev in4 (c : Dev nD) : Vec F S16x128 .f32 := W19 m ρ c (Proc.devRef .tc main_v23)
abbrev in5 (c : Dev nD) : Vec F S16x128 .i32 := W19 m ρ c (Proc.devRef .tc main_v25)

/-- The picks left in at the end of the loop over them. -/
def kept (c : Dev nD) : FVec F S16x128 .f32 :=
  keepEnd (in0 m ρ c) (in1 m ρ c) (in2 m ρ c) (in3 m ρ c) (in4 m ρ c) (in5 m ρ c)

theorem index1_0 : ∀ t : Fin cfg1.N, win1_0.index t = ![0, 0] := (by decide +kernel : ∀ t : Fin grid1.N, _)
theorem index1_1 : ∀ t : Fin cfg1.N, win1_1.index t = ![0, 0] := (by decide +kernel : ∀ t : Fin grid1.N, _)
theorem index1_2 : ∀ t : Fin cfg1.N, win1_2.index t = ![0, 0] := (by decide +kernel : ∀ t : Fin grid1.N, _)
theorem index1_3 : ∀ t : Fin cfg1.N, win1_3.index t = ![0, 0] := (by decide +kernel : ∀ t : Fin grid1.N, _)
theorem index1_4 : ∀ t : Fin cfg1.N, win1_4.index t = ![0, 0] := (by decide +kernel : ∀ t : Fin grid1.N, _)
theorem index1_5 : ∀ t : Fin cfg1.N, win1_5.index t = ![0, 0] := (by decide +kernel : ∀ t : Fin grid1.N, _)
theorem index1_6 : ∀ t : Fin cfg1.N, win1_6.index t = ![0, 0] := (by decide +kernel : ∀ t : Fin grid1.N, _)
theorem index1_7 : ∀ t : Fin cfg1.N, win1_7.index t = ![0, 0] := (by decide +kernel : ∀ t : Fin grid1.N, _)
theorem index1_8 : ∀ t : Fin cfg1.N, win1_8.index t = ![0, 0] := (by decide +kernel : ∀ t : Fin grid1.N, _)
theorem index1_9 : ∀ t : Fin cfg1.N, win1_9.index t = ![0, 0] := (by decide +kernel : ∀ t : Fin grid1.N, _)
theorem index1_10 : ∀ t : Fin cfg1.N, win1_10.index t = ![0, 0] := (by decide +kernel : ∀ t : Fin grid1.N, _)
theorem index1_11 : ∀ t : Fin cfg1.N, win1_11.index t = ![0, 0] := (by decide +kernel : ∀ t : Fin grid1.N, _)
theorem index1_12 : ∀ t : Fin cfg1.N, win1_12.index t = ![0, 0] := (by decide +kernel : ∀ t : Fin grid1.N, _)

theorem whole_0 (c : Dev nD) (t : Fin cfg1.N) : iblk1 (V19 m ρ) c 0 t = in0 m ρ c := by
  funext y
  unfold iblk1
  blk_simp
  exact congrArg (in0 m ρ c) (funext fun a => match a with
    | ⟨0, _⟩ => Fin.ext (by blk_simp [index1_0])
    | ⟨1, _⟩ => Fin.ext (by blk_simp [index1_0]))
theorem whole_1 (c : Dev nD) (t : Fin cfg1.N) : iblk1 (V19 m ρ) c 1 t = in1 m ρ c := by
  funext y
  unfold iblk1
  blk_simp
  exact congrArg (in1 m ρ c) (funext fun a => match a with
    | ⟨0, _⟩ => Fin.ext (by blk_simp [index1_1])
    | ⟨1, _⟩ => Fin.ext (by blk_simp [index1_1]))
theorem whole_2 (c : Dev nD) (t : Fin cfg1.N) : iblk1 (V19 m ρ) c 2 t = in2 m ρ c := by
  funext y
  unfold iblk1
  blk_simp
  exact congrArg (in2 m ρ c) (funext fun a => match a with
    | ⟨0, _⟩ => Fin.ext (by blk_simp [index1_2])
    | ⟨1, _⟩ => Fin.ext (by blk_simp [index1_2]))
theorem whole_3 (c : Dev nD) (t : Fin cfg1.N) : iblk1 (V19 m ρ) c 3 t = in3 m ρ c := by
  funext y
  unfold iblk1
  blk_simp
  exact congrArg (in3 m ρ c) (funext fun a => match a with
    | ⟨0, _⟩ => Fin.ext (by blk_simp [index1_3])
    | ⟨1, _⟩ => Fin.ext (by blk_simp [index1_3]))
theorem whole_4 (c : Dev nD) (t : Fin cfg1.N) : iblk1 (V19 m ρ) c 4 t = in4 m ρ c := by
  funext y
  unfold iblk1
  blk_simp
  exact congrArg (in4 m ρ c) (funext fun a => match a with
    | ⟨0, _⟩ => Fin.ext (by blk_simp [index1_4])
    | ⟨1, _⟩ => Fin.ext (by blk_simp [index1_4]))
theorem whole_5 (c : Dev nD) (t : Fin cfg1.N) : iblk1 (V19 m ρ) c 5 t = in5 m ρ c := by
  funext y
  unfold iblk1
  blk_simp
  exact congrArg (in5 m ρ c) (funext fun a => match a with
    | ⟨0, _⟩ => Fin.ext (by blk_simp [index1_5])
    | ⟨1, _⟩ => Fin.ext (by blk_simp [index1_5]))

theorem result_0 (c : Dev nD) : W20 m ρ c (Proc.devRef .tc main_v26_0) = k1_pay26 (k1_pay9 (in0 m ρ c)) (kept m ρ c) := by
  refine (W20_arr m ρ c 6).trans ((dat1 (V19 m ρ) c).arrAt_eq_of_covers 6 _ (by decide +kernel) fun t hf y => ?_)
  blk_simp
  rw [after1_6]
  unfold outsAt1
  dsimp only
  rw [out_6, whole_0, whole_1, whole_2, whole_3, whole_4, whole_5]
  exact congrArg _ (funext fun a => match a with
    | ⟨0, _⟩ => Fin.ext (by blk_simp [index1_6])
    | ⟨1, _⟩ => Fin.ext (by blk_simp [index1_6]))
theorem result_1 (c : Dev nD) : W20 m ρ c (Proc.devRef .tc main_v26_1) = k1_pay27 (k1_pay10 (in1 m ρ c)) (kept m ρ c) := by
  refine (W20_arr m ρ c 7).trans ((dat1 (V19 m ρ) c).arrAt_eq_of_covers 7 _ (by decide +kernel) fun t hf y => ?_)
  blk_simp
  rw [after1_7]
  unfold outsAt1
  dsimp only
  rw [out_7, whole_0, whole_1, whole_2, whole_3, whole_4, whole_5]
  exact congrArg _ (funext fun a => match a with
    | ⟨0, _⟩ => Fin.ext (by blk_simp [index1_7])
    | ⟨1, _⟩ => Fin.ext (by blk_simp [index1_7]))
theorem result_2 (c : Dev nD) : W20 m ρ c (Proc.devRef .tc main_v26_2) = k1_pay28 (k1_pay11 (in2 m ρ c)) (kept m ρ c) := by
  refine (W20_arr m ρ c 8).trans ((dat1 (V19 m ρ) c).arrAt_eq_of_covers 8 _ (by decide +kernel) fun t hf y => ?_)
  blk_simp
  rw [after1_8]
  unfold outsAt1
  dsimp only
  rw [out_8, whole_0, whole_1, whole_2, whole_3, whole_4, whole_5]
  exact congrArg _ (funext fun a => match a with
    | ⟨0, _⟩ => Fin.ext (by blk_simp [index1_8])
    | ⟨1, _⟩ => Fin.ext (by blk_simp [index1_8]))
theorem result_3 (c : Dev nD) : W20 m ρ c (Proc.devRef .tc main_v26_3) = k1_pay29 (k1_pay12 (in3 m ρ c)) (kept m ρ c) := by
  refine (W20_arr m ρ c 9).trans ((dat1 (V19 m ρ) c).arrAt_eq_of_covers 9 _ (by decide +kernel) fun t hf y => ?_)
  blk_simp
  rw [after1_9]
  unfold outsAt1
  dsimp only
  rw [out_9, whole_0, whole_1, whole_2, whole_3, whole_4, whole_5]
  exact congrArg _ (funext fun a => match a with
    | ⟨0, _⟩ => Fin.ext (by blk_simp [index1_9])
    | ⟨1, _⟩ => Fin.ext (by blk_simp [index1_9]))
theorem result_4 (c : Dev nD) : W20 m ρ c (Proc.devRef .tc main_v26_4) = k1_pay1 (k1_pay13 (in4 m ρ c)) (k1_pay25 (kept m ρ c)) := by
  refine (W20_arr m ρ c 10).trans ((dat1 (V19 m ρ) c).arrAt_eq_of_covers 10 _ (by decide +kernel) fun t hf y => ?_)
  blk_simp
  rw [after1_10]
  unfold outsAt1
  dsimp only
  rw [out_10, whole_0, whole_1, whole_2, whole_3, whole_4, whole_5]
  exact congrArg _ (funext fun a => match a with
    | ⟨0, _⟩ => Fin.ext (by blk_simp [index1_10])
    | ⟨1, _⟩ => Fin.ext (by blk_simp [index1_10]))
theorem result_5 (c : Dev nD) : W20 m ρ c (Proc.devRef .tc main_v26_5) = k1_pay2 (k1_pay14 (in5 m ρ c)) (k1_pay25 (kept m ρ c)) := by
  refine (W20_arr m ρ c 11).trans ((dat1 (V19 m ρ) c).arrAt_eq_of_covers 11 _ (by decide +kernel) fun t hf y => ?_)
  blk_simp
  rw [after1_11]
  unfold outsAt1
  dsimp only
  rw [out_11, whole_0, whole_1, whole_2, whole_3, whole_4, whole_5]
  exact congrArg _ (funext fun a => match a with
    | ⟨0, _⟩ => Fin.ext (by blk_simp [index1_11])
    | ⟨1, _⟩ => Fin.ext (by blk_simp [index1_11]))
theorem result_6 (c : Dev nD) : W20 m ρ c (Proc.devRef .tc main_v26_6) = k1_pay3 (k1_pay25 (kept m ρ c)) := by
  refine (W20_arr m ρ c 12).trans ((dat1 (V19 m ρ) c).arrAt_eq_of_covers 12 _ (by decide +kernel) fun t hf y => ?_)
  blk_simp
  rw [after1_12]
  unfold outsAt1
  dsimp only
  rw [out_12, whole_0, whole_1, whole_2, whole_3, whole_4, whole_5]
  exact congrArg _ (funext fun a => match a with
    | ⟨0, _⟩ => Fin.ext (by blk_simp [index1_12])
    | ⟨1, _⟩ => Fin.ext (by blk_simp [index1_12]))

end Cert.KernelArr
-- ==== Proof.Sweep.lean ====
module

public import proofs.«01_k».proof.Proof.Suppress
public import proofs.«01_k».proof.Proof.Spec
public import Idealize.ShloMosaic.Lib.Pointwise

/-!
# The suppression loop over the extended reals

The kernel picks a number out of an array by multiplying it with an array that is 1 at one place and 0 at
all others and adding up. Over the extended reals that sum is the number, infinite or not. So one trip
keeps a pick in if it was in and the trip's pick is out, not earlier, or does not overlap with it by more than half: the array of the
ins and outs is the 0-1 array of `Cert.Detect.Keep`.
-/

@[expose] public section

noncomputable section

namespace Cert.Suppress

open Idealize.ShloMosaic Idealize.ShloMosaic.TcCoe Idealize.SL.Sem Idealize.ShloMosaic.Pointwise
open Cert.KernelIdeal Cert.KernelIdeal.Gen Cert.Detect

/-- The place of a pick in the kernel's 16 × 128 arrays. -/
def place (j : Fin 2000) : S16x128.Idx := ix2 (⟨j.val / 128, by omega⟩ : Fin 16) (⟨j.val % 128, by omega⟩ : Fin 128)

theorem lt_2000 (k : Fin k1_t1_loop.trips) : k.val < 2000 := lt_of_lt_of_eq k.isLt trips_eq

theorem number_eq (a : Fin 16) (b : Fin 128) :
    IntOp.addi (IntOp.muli (BitVec.ofNat 32 a.val) 128#32) (BitVec.ofNat 32 b.val) = BitVec.ofNat 32 (128 * a.val + b.val) := by
  apply BitVec.eq_of_toNat_eq
  simp only [IntOp.addi, IntOp.muli, BitVec.toNat_add, BitVec.toNat_mul, BitVec.toNat_ofNat]
  omega

theorem iv_eq (k : ℕ) : Scf.iv 0#32 1#32 k = BitVec.ofNat 32 k := by
  simp [Scf.iv]

theorem ofBool_one (p : Bool) : BitVec.ofBool p = 1#1 ↔ p = true := by cases p <;> decide

theorem ones (p : Bool) : FloatOps.sitofp (F := Ideal) .f32 (BitVec.setWidth 32 (BitVec.ofBool p)) = if p then (1 : EReal) else 0 := by
  cases p <;> simp [FloatOps.sitofp]

/-- The array that is 1 at the trip's place and 0 elsewhere. -/
theorem mask_at (k : Fin k1_t1_loop.trips) (a : Fin 16) (b : Fin 128) :
    (k1_pay4 (F := Ideal) k1_pay23 0#32 1#32 k : S16x128.Idx → EReal) (ix2 a b) = if 128 * a.val + b.val = k.val then 1 else 0 := by
  unfold k1_pay4 k1_pay23
  pointwise
  rw [number_eq, iv_eq]
  have hk := lt_2000 k
  have e : IntOp.cmpi .eq (BitVec.ofNat 32 (128 * a.val + b.val)) (BitVec.ofNat 32 k.val) = BitVec.ofBool (decide (128 * a.val + b.val = k.val)) := by
    simp only [IntOp.cmpi]
    congr 1
    rw [Bool.eq_iff_iff, beq_iff_eq, decide_eq_true_iff, ← BitVec.toNat_inj]
    simp only [BitVec.toNat_ofNat]
    rw [Nat.mod_eq_of_lt (by omega), Nat.mod_eq_of_lt (by omega)]
  rw [e, ones]
  simp

/-- Adding up an array multiplied with the mask picks one number out. -/
theorem sum_mask (v : S16x128.Idx → EReal) (k : Fin k1_t1_loop.trips) :
    (∑ x : Fin 16, ∑ y : Fin 128, v (ix2 x y) * (k1_pay4 (F := Ideal) k1_pay23 0#32 1#32 k : S16x128.Idx → EReal) (ix2 x y))
      = v (place ⟨k.val, lt_2000 k⟩) := by
  have hk := lt_2000 k
  have h : ∀ (x : Fin 16) (y : Fin 128), v (ix2 x y) * (k1_pay4 (F := Ideal) k1_pay23 0#32 1#32 k : S16x128.Idx → EReal) (ix2 x y)
      = if 128 * x.val + y.val = k.val then v (ix2 x y) else 0 := by
    intro x y
    rw [mask_at]
    split <;> simp
  rw [Finset.sum_eq_single (⟨k.val / 128, by omega⟩ : Fin 16), Finset.sum_eq_single (⟨k.val % 128, by omega⟩ : Fin 128), h, if_pos]
  · rfl
  · show 128 * (k.val / 128) + k.val % 128 = k.val
    omega
  · intro y _ hy
    rw [h, if_neg]
    intro e
    exact hy (Fin.ext (by show y.val = k.val % 128; simp only at e; omega))
  · simp
  · intro x _ hx
    refine Finset.sum_eq_zero fun y _ => ?_
    rw [h, if_neg]
    intro e
    exact hx (Fin.ext (by show x.val = k.val / 128; omega))
  · simp

variable (v31 v32 v33 v34 v37 K : FVec Ideal S16x128 .f32)

/-- The box that four arrays hold at a pick's place. -/
def boxAt (v31 v32 v33 v34 : S16x128.Idx → EReal) (j : Fin 2000) (c : Fin 4) : EReal :=
  match c with
  | 0 => v31 (place j)
  | 1 => v32 (place j)
  | 2 => v33 (place j)
  | 3 => v34 (place j)

theorem later (k : Fin k1_t1_loop.trips) (j : Fin 2000) :
    IntOp.cmpi .sgt (IntOp.addi (IntOp.muli (BitVec.ofNat 32 (j.val / 128)) 128#32) (BitVec.ofNat 32 (j.val % 128))) (Scf.iv 0#32 1#32 k.val)
      = BitVec.ofBool (decide (k.val < j.val)) := by
  have hk := lt_2000 k
  have e := number_eq ⟨j.val / 128, by omega⟩ ⟨j.val % 128, by omega⟩
  simp only at e
  rw [e, iv_eq, show 128 * (j.val / 128) + j.val % 128 = j.val by omega]
  simp only [IntOp.cmpi, BitVec.slt]
  rw [BitVec.toInt_eq_toNat_of_lt, BitVec.toInt_eq_toNat_of_lt]
  · simp only [BitVec.toNat_ofNat]
    rw [Nat.mod_eq_of_lt (by omega), Nat.mod_eq_of_lt (by omega)]
    simp
  · simp only [BitVec.toNat_ofNat]; omega
  · simp only [BitVec.toNat_ofNat]; omega

open Classical in
/-- One trip at a pick's place. -/
theorem step_at (h37 : ∀ i, v37 i = max (v33 i - v31 i) 0) (k : Fin k1_t1_loop.trips) (j : Fin 2000) :
    (keepStep v31 v32 v33 v34 v37 k K : S16x128.Idx → EReal) (place j)
      = (K : S16x128.Idx → EReal) (place j) * (1 - if half < overlap (boxAt v31 v32 v33 v34 ⟨k.val, lt_2000 k⟩) (boxAt v31 v32 v33 v34 j) ∧ k.val < j.val
          then (K : S16x128.Idx → EReal) (place ⟨k.val, lt_2000 k⟩) else 0) := by
  have e5 : (k1_pay5 (F := Ideal) k1_pay23 0#32 1#32 k K : EReal) = K (place ⟨k.val, lt_2000 k⟩) := by
    unfold k1_pay5; pointwise; exact sum_mask K k
  have e6 : (k1_pay6 (F := Ideal) (k1_pay21 v32 v34 v37) k1_pay23 0#32 1#32 k : EReal) = area (boxAt v31 v32 v33 v34 ⟨k.val, lt_2000 k⟩) := by
    unfold k1_pay6; pointwise
    rw [sum_mask (k1_pay21 v32 v34 v37) k]
    unfold k1_pay21 place
    pointwise
    rw [h37]
    rfl
  have e7 : (k1_pay7 (F := Ideal) v31 v33 k1_pay23 0#32 1#32 k : S16x128.Idx → EReal) (place j)
      = max (min (v33 (place ⟨k.val, lt_2000 k⟩)) (v33 (place j)) - max (v31 (place ⟨k.val, lt_2000 k⟩)) (v31 (place j))) 0 := by
    unfold k1_pay7
    rw [show place j = ix2 (⟨j.val / 128, by omega⟩ : Fin 16) (⟨j.val % 128, by omega⟩ : Fin 128) from rfl]
    pointwise
    rw [sum_mask v33 k, sum_mask v31 k, min_comm, max_comm (v31 _)]
    rfl
  have e8 : (k1_pay8 (F := Ideal) v32 v34 k1_pay23 0#32 1#32 k : S16x128.Idx → EReal) (place j)
      = max (min (v34 (place ⟨k.val, lt_2000 k⟩)) (v34 (place j)) - max (v32 (place ⟨k.val, lt_2000 k⟩)) (v32 (place j))) 0 := by
    unfold k1_pay8
    rw [show place j = ix2 (⟨j.val / 128, by omega⟩ : Fin 16) (⟨j.val % 128, by omega⟩ : Fin 128) from rfl]
    pointwise
    rw [sum_mask v34 k, sum_mask v32 k, min_comm, max_comm (v32 _)]
    rfl
  unfold keepStep
  generalize hs5 : (k1_pay5 (F := Ideal) k1_pay23 0#32 1#32 k K : EReal) = s5 at *
  generalize hs6 : (k1_pay6 (F := Ideal) (k1_pay21 v32 v34 v37) k1_pay23 0#32 1#32 k : EReal) = s6 at *
  generalize hs7 : (k1_pay7 (F := Ideal) v31 v33 k1_pay23 0#32 1#32 k : FVec Ideal S16x128 .f32) = s7 at *
  generalize hs8 : (k1_pay8 (F := Ideal) v32 v34 k1_pay23 0#32 1#32 k : FVec Ideal S16x128 .f32) = s8 at *
  have hp : place j = ix2 (⟨j.val / 128, by omega⟩ : Fin 16) (⟨j.val % 128, by omega⟩ : Fin 128) := rfl
  rw [hp] at e7 e8 ⊢
  unfold k1_pay24 k1_pay21 k1_pay23
  pointwise
  rw [later, e7, e8, h37, e6, e5, ← hp]
  have e : ∀ p q : Prop, [Decidable p] → [Decidable q] → ∀ x : EReal, Scalar.select (IntOp.andi (BitVec.ofBool (decide p)) (BitVec.ofBool (decide q))) x (0 : EReal) = if p ∧ q then x else 0 := by
    intro p q _ _ x
    by_cases hp : p <;> by_cases hq : q <;> simp [hp, hq, Scalar.select, IntOp.andi]
  rw [e]
  rfl

open Classical in
/-- The array of ins and outs is the 0-1 array of the picks that are in. -/
theorem keepFrom_at (h37 : ∀ i, v37 i = max (v33 i - v31 i) 0) (K0 : FVec Ideal S16x128 .f32) (start : Fin 2000 → Prop)
    (h0 : ∀ j, (K0 : S16x128.Idx → EReal) (place j) = if start j then 1 else 0) (n : ℕ) (hn : n ≤ 2000) (j : Fin 2000) :
    (keepFrom v31 v32 v33 v34 v37 K0 n : S16x128.Idx → EReal) (place j) = if Keep start (boxAt v31 v32 v33 v34) n j then 1 else 0 := by
  induction n generalizing j with
  | zero => exact h0 j
  | succ n ih =>
    have hlt : n < k1_t1_loop.trips := lt_of_lt_of_eq hn trips_eq.symm
    have e : keepFrom v31 v32 v33 v34 v37 K0 (n + 1) = keepStep v31 v32 v33 v34 v37 ⟨n, hlt⟩ (keepFrom v31 v32 v33 v34 v37 K0 n) := dif_pos hlt
    rw [e, step_at _ _ _ _ _ _ h37, ih (by omega), ih (by omega)]
    have hk : Keep start (boxAt v31 v32 v33 v34) (n + 1) j ↔ Keep start (boxAt v31 v32 v33 v34) n j
        ∧ (Keep start (boxAt v31 v32 v33 v34) n ⟨n, hn⟩ → n < j.val → ¬ half < overlap (boxAt v31 v32 v33 v34 ⟨n, hn⟩) (boxAt v31 v32 v33 v34 j)) :=
      ⟨fun h => ⟨h.1, h.2 hn⟩, fun h => ⟨h.1, fun _ => h.2⟩⟩
    have one : (1 : EReal) - 1 = 0 := by
      rw [show (1 : EReal) = ((1 : ℝ) : EReal) from rfl, ← EReal.coe_sub]; simp
    rw [if_congr hk rfl rfl]
    by_cases h1 : Keep start (boxAt v31 v32 v33 v34) n j
    · by_cases h2 : Keep start (boxAt v31 v32 v33 v34) n ⟨n, hn⟩
      · by_cases h3 : n < j.val
        · by_cases h4 : half < overlap (boxAt v31 v32 v33 v34 ⟨n, hn⟩) (boxAt v31 v32 v33 v34 j)
          · simp [h1, h2, h3, h4, one]
          · simp [h1, h2, h3, h4]
        · simp [h1, h2, h3]
      · simp [h1, h2]
    · simp [h1]

end Cert.Suppress
-- ==== Proof.KernelEntry.lean ====
module

public import proofs.«01_k».proof.Proof.KernelPick
public import proofs.«01_k».proof.Proof.Region0
public import proofs.«01_k».proof.Proof.Region1
public import proofs.«01_k».proof.Proof.Sweep

/-!
# What the second region is entered with

The four columns of the picks' boxes, the picks' scores and the picks' classes, each lengthened from 2000 to 2048
numbers and laid out as a 16 × 128 array. Read here at the place of a pick.
-/

@[expose] public section

set_option maxRecDepth 8192

noncomputable section

namespace Cert.KernelHost

open Idealize.ShloMosaic Idealize.ShloMosaic.TcCoe Idealize.ShloMosaic.StableHlo Idealize.SL.Sem Idealize.ShloMosaic.Pointwise
open Cert.KernelIdeal Cert.KernelIdeal.Gen Cert.Detect Cert.Suppress Cert.KernelArr

/-! ## The stretches that cut a column, lengthen it and lay it out -/

section Stretches

variable (V : Valuation τ sig (Elt Ideal))

theorem cut_0 (j : Fin 2000) : (after hostOps1_5 V (Proc.devRef .tc main_v7) : S2000.Idx → EReal) (ix1 j)
    = (V (Proc.devRef .tc main_v5) : S2000x4.Idx → EReal) (ix2 j 0) := by
  after_reads_at

theorem longer_0 (p : Fin 2048) (hp : p.val < 2000) : (after hostOps1_6 V (Proc.devRef .tc main_v8) : S2048.Idx → EReal) (ix1 p)
    = (V (Proc.devRef .tc main_v7) : S2000.Idx → EReal) (ix1 (⟨p.val, hp⟩ : Fin 2000)) := by
  after_reads_at
  exact dif_pos hp

theorem laid_0 (p : Fin 16) (q : Fin 128) : (after hostOps1_7 V (Proc.devRef .tc main_v9) : S16x128.Idx → EReal) (ix2 p q)
    = (V (Proc.devRef .tc main_v8) : S2048.Idx → EReal) (ix1 (⟨p.val * 128 + q.val, by omega⟩ : Fin 2048)) := by
  after_reads_at

theorem cut_1 (j : Fin 2000) : (after hostOps1_7 V (Proc.devRef .tc main_v11) : S2000.Idx → EReal) (ix1 j)
    = (V (Proc.devRef .tc main_v5) : S2000x4.Idx → EReal) (ix2 j 1) := by
  after_reads_at

theorem longer_1 (p : Fin 2048) (hp : p.val < 2000) : (after hostOps1_8 V (Proc.devRef .tc main_v12) : S2048.Idx → EReal) (ix1 p)
    = (V (Proc.devRef .tc main_v11) : S2000.Idx → EReal) (ix1 (⟨p.val, hp⟩ : Fin 2000)) := by
  after_reads_at
  exact dif_pos hp

theorem laid_1 (p : Fin 16) (q : Fin 128) : (after hostOps1_9 V (Proc.devRef .tc main_v13) : S16x128.Idx → EReal) (ix2 p q)
    = (V (Proc.devRef .tc main_v12) : S2048.Idx → EReal) (ix1 (⟨p.val * 128 + q.val, by omega⟩ : Fin 2048)) := by
  after_reads_at

theorem cut_2 (j : Fin 2000) : (after hostOps1_9 V (Proc.devRef .tc main_v15) : S2000.Idx → EReal) (ix1 j)
    = (V (Proc.devRef .tc main_v5) : S2000x4.Idx → EReal) (ix2 j 2) := by
  after_reads_at

theorem longer_2 (p : Fin 2048) (hp : p.val < 2000) : (after hostOps1_10 V (Proc.devRef .tc main_v16) : S2048.Idx → EReal) (ix1 p)
    = (V (Proc.devRef .tc main_v15) : S2000.Idx → EReal) (ix1 (⟨p.val, hp⟩ : Fin 2000)) := by
  after_reads_at
  exact dif_pos hp

theorem laid_2 (p : Fin 16) (q : Fin 128) : (after hostOps1_11 V (Proc.devRef .tc main_v17) : S16x128.Idx → EReal) (ix2 p q)
    = (V (Proc.devRef .tc main_v16) : S2048.Idx → EReal) (ix1 (⟨p.val * 128 + q.val, by omega⟩ : Fin 2048)) := by
  after_reads_at

theorem cut_3 (j : Fin 2000) : (after hostOps1_11 V (Proc.devRef .tc main_v19) : S2000.Idx → EReal) (ix1 j)
    = (V (Proc.devRef .tc main_v5) : S2000x4.Idx → EReal) (ix2 j 3) := by
  after_reads_at

theorem longer_3 (p : Fin 2048) (hp : p.val < 2000) : (after hostOps1_12 V (Proc.devRef .tc main_v20) : S2048.Idx → EReal) (ix1 p)
    = (V (Proc.devRef .tc main_v19) : S2000.Idx → EReal) (ix1 (⟨p.val, hp⟩ : Fin 2000)) := by
  after_reads_at
  exact dif_pos hp

theorem laid_3 (p : Fin 16) (q : Fin 128) : (after hostOps1_13 V (Proc.devRef .tc main_v21) : S16x128.Idx → EReal) (ix2 p q)
    = (V (Proc.devRef .tc main_v20) : S2048.Idx → EReal) (ix1 (⟨p.val * 128 + q.val, by omega⟩ : Fin 2048)) := by
  after_reads_at

theorem longer_4 (p : Fin 2048) (hp : p.val < 2000) : (after hostOps1_14 V (Proc.devRef .tc main_v22) : S2048.Idx → EReal) (ix1 p)
    = (V (Proc.devRef .tc main_values_0) : S2000.Idx → EReal) (ix1 (⟨p.val, hp⟩ : Fin 2000)) := by
  after_reads_at
  exact dif_pos hp

theorem laid_4 (p : Fin 16) (q : Fin 128) : (after hostOps1_15 V (Proc.devRef .tc main_v23) : S16x128.Idx → EReal) (ix2 p q)
    = (V (Proc.devRef .tc main_v22) : S2048.Idx → EReal) (ix1 (⟨p.val * 128 + q.val, by omega⟩ : Fin 2048)) := by
  after_reads_at

theorem longer_5 (p : Fin 2048) (hp : p.val < 2000) : (after hostOps1_16 V (Proc.devRef .tc main_v24) : S2048.Idx → BitVec 32) (ix1 p)
    = (V (Proc.devRef .tc main_v4) : S2000.Idx → BitVec 32) (ix1 (⟨p.val, hp⟩ : Fin 2000)) := by
  after_reads_at
  exact dif_pos hp

theorem laid_5 (p : Fin 16) (q : Fin 128) : (after hostOps1_17 V (Proc.devRef .tc main_v25) : S16x128.Idx → BitVec 32) (ix2 p q)
    = (V (Proc.devRef .tc main_v24) : S2048.Idx → BitVec 32) (ix1 (⟨p.val * 128 + q.val, by omega⟩ : Fin 2048)) := by
  after_reads_at

end Stretches

/-! ## The contents at the second region's entry -/

variable (m : (ℓ : Loc nD τ sig) → Buf (Elt Ideal) ℓ) (ρ : Dev nD → PrngReg) (c : Dev nD)

/-- The logits. -/
def logits (r : Fin 20000) (k : Fin 81) : EReal := (m ((c : Thread nD τ).loc main_arg0) : S20000x81.Idx → EReal) (ix2 r k)

/-- The boxes. -/
def boxes (r : Fin 20000) (k : Fin 4) : EReal := (m ((c : Thread nD τ).loc main_arg1) : S20000x4.Idx → EReal) (ix2 r k)

/-- The kernel program's picks. -/
abbrev pick : Fin 2000 → Fin 1620000 := pickTop (logits m c)

theorem masked_at (r : Fin 20000) (k : Fin 81) :
    (W1 m ρ c (Proc.devRef .tc main_v0) : S20000x81.Idx → EReal) (ix2 r k) = masked (logits m c r) k := scores_at m ρ c r k

theorem W2_values (j : Fin 2000) : (W2 m ρ c (Proc.devRef .tc main_values_0) : S2000.Idx → EReal) (ix1 j) = scores (logits m c) (pick m c j) :=
  (picks_at (W1 m ρ c) (logits m c) (masked_at m ρ c) j).1

theorem W2_places (j : Fin 2000) : (W2 m ρ c (Proc.devRef .tc main_indices_1) : S2000.Idx → BitVec 32) (ix1 j) = BitVec.ofNat 32 (pickKept (logits m c) j).val :=
  (picks_at (W1 m ρ c) (logits m c) (masked_at m ρ c) j).2

theorem W3_row (j : Fin 2000) : (W3 m ρ c (Proc.devRef .tc main_v2) : S2000.Idx → BitVec 32) (ix1 j) = BitVec.ofNat 32 (rowAt (pick m c j)).val := by
  refine (row_at (W2 m ρ c) j (pickKept (logits m c) j) (W2_places m ρ c j) (divisor_at (W1 m ρ c))).trans (congrArg _ ?_)
  exact (lift_div (R := 20000) (C := 81) (T := 19) (by norm_num) (by norm_num) (fun r => masked (logits m c r)) (pickKept (logits m c) j)).symm

theorem W5_class (j : Fin 2000) : (W5 m ρ c (Proc.devRef .tc main_v4) : S2000.Idx → BitVec 32) (ix1 j) = word (pick m c j) := by
  refine (class_at (W4 m ρ c) j (pickKept (logits m c) j) ?_).trans ?_
  · rw [W4_of m ρ c main_indices_1 (by decide), W3_of m ρ c main_indices_1 (by decide)]
    exact W2_places m ρ c j
  · refine (column_at (W3 m ρ c) _).trans ?_
    rw [W3_of m ρ c main_indices (by decide)]
    refine (columns_at (W1 m ρ c) (logits m c) (masked_at m ρ c) _ _).trans (congrArg _ ?_)
    exact (lift_mod (R := 20000) (C := 81) (T := 19) (by norm_num) (by norm_num) (fun r => masked (logits m c r)) (pickKept (logits m c) j)).symm

theorem W6_box (j : Fin 2000) (k : Fin 4) : (W6 m ρ c (Proc.devRef .tc main_v5) : S2000x4.Idx → EReal) (ix2 j k) = boxes m c (rowAt (pick m c j)) k := by
  refine (box_at (W5 m ρ c) j (rowAt (pick m c j)) ?_ k).trans ?_
  · rw [W5_of m ρ c main_v2 (by decide), W4_of m ρ c main_v2 (by decide)]
    exact W3_row m ρ c j
  · rw [W5_args m ρ c main_arg1 (by decide)]
    rfl

/-- Where a pick lies in the array of 2048. -/
theorem place_2048 (j : Fin 2000) (h : j.val / 128 * 128 + j.val % 128 < 2048) :
    (⟨j.val / 128 * 128 + j.val % 128, h⟩ : Fin 2048) = ⟨j.val, by omega⟩ := Fin.ext (by show j.val / 128 * 128 + j.val % 128 = j.val; omega)

theorem entry_0 (j : Fin 2000) : in0 m ρ c (place j) = boxes m c (rowAt (pick m c j)) 0 := by
  unfold in0
  rw [W19_of m ρ c main_v9 (by decide), W18_of m ρ c main_v9 (by decide), W17_of m ρ c main_v9 (by decide), W16_of m ρ c main_v9 (by decide), W15_of m ρ c main_v9 (by decide), W14_of m ρ c main_v9 (by decide), W13_of m ρ c main_v9 (by decide), W12_of m ρ c main_v9 (by decide), W11_of m ρ c main_v9 (by decide), W10_of m ρ c main_v9 (by decide)]
  refine (laid_0 (W8 m ρ c) _ _).trans ?_
  rw [place_2048]
  refine (longer_0 (W7 m ρ c) _ j.isLt).trans ?_
  refine (cut_0 (W6 m ρ c) _).trans ?_
  exact W6_box m ρ c j 0

theorem entry_1 (j : Fin 2000) : in1 m ρ c (place j) = boxes m c (rowAt (pick m c j)) 1 := by
  unfold in1
  rw [W19_of m ρ c main_v13 (by decide), W18_of m ρ c main_v13 (by decide), W17_of m ρ c main_v13 (by decide), W16_of m ρ c main_v13 (by decide), W15_of m ρ c main_v13 (by decide), W14_of m ρ c main_v13 (by decide), W13_of m ρ c main_v13 (by decide), W12_of m ρ c main_v13 (by decide)]
  refine (laid_1 (W10 m ρ c) _ _).trans ?_
  rw [place_2048]
  refine (longer_1 (W9 m ρ c) _ j.isLt).trans ?_
  refine (cut_1 (W8 m ρ c) _).trans ?_
  rw [W8_of m ρ c main_v5 (by decide), W7_of m ρ c main_v5 (by decide)]
  exact W6_box m ρ c j 1

theorem entry_2 (j : Fin 2000) : in2 m ρ c (place j) = boxes m c (rowAt (pick m c j)) 2 := by
  unfold in2
  rw [W19_of m ρ c main_v17 (by decide), W18_of m ρ c main_v17 (by decide), W17_of m ρ c main_v17 (by decide), W16_of m ρ c main_v17 (by decide), W15_of m ρ c main_v17 (by decide), W14_of m ρ c main_v17 (by decide)]
  refine (laid_2 (W12 m ρ c) _ _).trans ?_
  rw [place_2048]
  refine (longer_2 (W11 m ρ c) _ j.isLt).trans ?_
  refine (cut_2 (W10 m ρ c) _).trans ?_
  rw [W10_of m ρ c main_v5 (by decide), W9_of m ρ c main_v5 (by decide), W8_of m ρ c main_v5 (by decide), W7_of m ρ c main_v5 (by decide)]
  exact W6_box m ρ c j 2

theorem entry_3 (j : Fin 2000) : in3 m ρ c (place j) = boxes m c (rowAt (pick m c j)) 3 := by
  unfold in3
  rw [W19_of m ρ c main_v21 (by decide), W18_of m ρ c main_v21 (by decide), W17_of m ρ c main_v21 (by decide), W16_of m ρ c main_v21 (by decide)]
  refine (laid_3 (W14 m ρ c) _ _).trans ?_
  rw [place_2048]
  refine (longer_3 (W13 m ρ c) _ j.isLt).trans ?_
  refine (cut_3 (W12 m ρ c) _).trans ?_
  rw [W12_of m ρ c main_v5 (by decide), W11_of m ρ c main_v5 (by decide), W10_of m ρ c main_v5 (by decide), W9_of m ρ c main_v5 (by decide), W8_of m ρ c main_v5 (by decide), W7_of m ρ c main_v5 (by decide)]
  exact W6_box m ρ c j 3

theorem entry_4 (j : Fin 2000) : in4 m ρ c (place j) = scores (logits m c) (pick m c j) := by
  unfold in4
  rw [W19_of m ρ c main_v23 (by decide), W18_of m ρ c main_v23 (by decide)]
  refine (laid_4 (W16 m ρ c) _ _).trans ?_
  rw [place_2048]
  refine (longer_4 (W15 m ρ c) _ j.isLt).trans ?_
  rw [W15_of m ρ c main_values_0 (by decide), W14_of m ρ c main_values_0 (by decide), W13_of m ρ c main_values_0 (by decide), W12_of m ρ c main_values_0 (by decide), W11_of m ρ c main_values_0 (by decide), W10_of m ρ c main_values_0 (by decide), W9_of m ρ c main_values_0 (by decide), W8_of m ρ c main_values_0 (by decide), W7_of m ρ c main_values_0 (by decide), W6_of m ρ c main_values_0 (by decide), W5_of m ρ c main_values_0 (by decide), W4_of m ρ c main_values_0 (by decide), W3_of m ρ c main_values_0 (by decide)]
  exact W2_values m ρ c j

theorem entry_5 (j : Fin 2000) : in5 m ρ c (place j) = word (pick m c j) := by
  unfold in5
  refine (laid_5 (W18 m ρ c) _ _).trans ?_
  rw [place_2048]
  refine (longer_5 (W17 m ρ c) _ j.isLt).trans ?_
  rw [W17_of m ρ c main_v4 (by decide), W16_of m ρ c main_v4 (by decide), W15_of m ρ c main_v4 (by decide), W14_of m ρ c main_v4 (by decide), W13_of m ρ c main_v4 (by decide), W12_of m ρ c main_v4 (by decide), W11_of m ρ c main_v4 (by decide), W10_of m ρ c main_v4 (by decide), W9_of m ρ c main_v4 (by decide), W8_of m ρ c main_v4 (by decide), W7_of m ρ c main_v4 (by decide), W6_of m ρ c main_v4 (by decide)]
  exact W5_class m ρ c j

end Cert.KernelHost
-- ==== Proof.KernelValue.lean ====
module

public import proofs.«01_k».proof.Proof.KernelEntry

/-!
# The kernel program's results

With the second region's entry arrays read at each pick, the array its loop ends with is 1 at the picks that
suppression leaves in and 0 at the others, and the host operations behind it give the detections, the labels and the
marks of the definitions in `Spec`.
-/

@[expose] public section

set_option maxRecDepth 8192

noncomputable section

namespace Cert.KernelHost

open Idealize.ShloMosaic Idealize.ShloMosaic.TcCoe Idealize.ShloMosaic.StableHlo Idealize.SL.Sem Idealize.ShloMosaic.Pointwise
open Cert.KernelIdeal Cert.KernelIdeal.Gen Cert.Detect Cert.Suppress Cert.KernelArr

/-! ## The region's arithmetic at one place -/

section Places

variable (x y : Vec Ideal S16x128 .f32) (w : Vec Ideal S16x128 .i32) (p : Fin 16) (q : Fin 128)

theorem shifted_0 : (k1_pay16 x w : S16x128.Idx → EReal) (ix2 p q)
    = min (cap 0) (max 0 (x (ix2 p q))) + FloatOps.sitofp (F := Ideal) .f32 (w (ix2 p q)) * stride := by
  unfold_payloads
  pointwise
  rfl

theorem shifted_1 : (k1_pay17 x w : S16x128.Idx → EReal) (ix2 p q)
    = min (cap 1) (max 0 (x (ix2 p q))) + FloatOps.sitofp (F := Ideal) .f32 (w (ix2 p q)) * stride := by
  unfold_payloads
  pointwise
  rfl

theorem shifted_2 : (k1_pay18 x w : S16x128.Idx → EReal) (ix2 p q)
    = min (cap 2) (max 0 (x (ix2 p q))) + FloatOps.sitofp (F := Ideal) .f32 (w (ix2 p q)) * stride := by
  unfold_payloads
  pointwise
  rfl

theorem shifted_3 : (k1_pay19 x w : S16x128.Idx → EReal) (ix2 p q)
    = min (cap 3) (max 0 (x (ix2 p q))) + FloatOps.sitofp (F := Ideal) .f32 (w (ix2 p q)) * stride := by
  unfold_payloads
  pointwise
  rfl

theorem width_eq : (k1_pay20 x y w : S16x128.Idx → EReal) (ix2 p q)
    = max ((k1_pay18 y w : S16x128.Idx → EReal) (ix2 p q) - (k1_pay16 x w : S16x128.Idx → EReal) (ix2 p q)) 0 := by
  rw [shifted_2, shifted_0]
  unfold_payloads
  pointwise
  rfl

theorem started : (k1_pay22 (k1_pay13 x) : S16x128.Idx → EReal) (ix2 p q) = if thr < x (ix2 p q) then 1 else 0 := by
  unfold_payloads
  pointwise
  refine (ones _).trans ?_
  simp only [decide_eq_true_eq]
  rfl

theorem boxed_0 : (k1_pay26 (k1_pay9 x) y : S16x128.Idx → EReal) (ix2 p q)
    = if half < y (ix2 p q) then min (cap 0) (max 0 (x (ix2 p q))) else 0 := by
  unfold_payloads
  pointwise
  rfl

theorem boxed_1 : (k1_pay27 (k1_pay10 x) y : S16x128.Idx → EReal) (ix2 p q)
    = if half < y (ix2 p q) then min (cap 1) (max 0 (x (ix2 p q))) else 0 := by
  unfold_payloads
  pointwise
  rfl

theorem boxed_2 : (k1_pay28 (k1_pay11 x) y : S16x128.Idx → EReal) (ix2 p q)
    = if half < y (ix2 p q) then min (cap 2) (max 0 (x (ix2 p q))) else 0 := by
  unfold_payloads
  pointwise
  rfl

theorem boxed_3 : (k1_pay29 (k1_pay12 x) y : S16x128.Idx → EReal) (ix2 p q)
    = if half < y (ix2 p q) then min (cap 3) (max 0 (x (ix2 p q))) else 0 := by
  unfold_payloads
  pointwise
  rfl

theorem scored : (k1_pay1 (k1_pay13 x) (k1_pay25 y) : S16x128.Idx → EReal) (ix2 p q) = if half < y (ix2 p q) then x (ix2 p q) else 0 := by
  unfold_payloads
  pointwise
  rfl

theorem labelled : (k1_pay2 (k1_pay14 w) (k1_pay25 y) : S16x128.Idx → BitVec 32) (ix2 p q) = if half < y (ix2 p q) then w (ix2 p q) else 0#32 := by
  unfold_payloads
  pointwise
  rfl

theorem marked : (k1_pay3 (F := Ideal) (k1_pay25 y) : S16x128.Idx → EReal) (ix2 p q) = if half < y (ix2 p q) then 1 else 0 := by
  unfold_payloads
  pointwise
  refine (ones _).trans ?_
  simp only [decide_eq_true_eq]
  rfl

end Places

/-! ## The loop's end -/

theorem half_lt (P : Prop) [Decidable P] : half < (if P then (1 : EReal) else 0) ↔ P := by
  have e : half = ((1 / 2 : ℝ) : EReal) := by
    simp [half, Ideal.ofBits, Ideal.ieee, -EReal.coe_mul]; norm_num
  rw [e]
  by_cases h : P
  · rw [if_pos h]
    exact ⟨fun _ => h, fun _ => EReal.coe_lt_coe_iff.mpr (show (1 / 2 : ℝ) < 1 by norm_num)⟩
  · rw [if_neg h]
    refine ⟨fun h' => absurd h' (not_lt.mpr ?_), fun h' => absurd h' h⟩
    exact EReal.coe_le_coe_iff.mpr (show (0 : ℝ) ≤ 1 / 2 by norm_num)

variable (m : (ℓ : Loc nD τ sig) → Buf (Elt Ideal) ℓ) (ρ : Dev nD → PrngReg) (c : Dev nD)

open Classical in
/-- The array the loop ends with. -/
theorem kept_at (j : Fin 2000) : (KernelArr.kept m ρ c : S16x128.Idx → EReal) (place j)
    = if Final (logits m c) (boxes m c) (pick m c) j then 1 else 0 := by
  unfold KernelArr.kept keepEnd
  refine (keepFrom_at _ _ _ _ _ (fun i => ?_) _ (Valid (logits m c) (pick m c)) (fun j => ?_) 2000 le_rfl j).trans ?_
  · rw [eq_ix2 i]
    exact width_eq _ _ _ _ _
  · refine (started _ _ _).trans ?_
    rw [show in4 m ρ c (ix2 _ _) = _ from entry_4 m ρ c j]
    exact if_congr Iff.rfl rfl rfl
  · have e : boxAt (k1_pay16 (in0 m ρ c) (in5 m ρ c)) (k1_pay17 (in1 m ρ c) (in5 m ρ c)) (k1_pay18 (in2 m ρ c) (in5 m ρ c))
        (k1_pay19 (in3 m ρ c) (in5 m ρ c)) = fun j => moved (boxes m c) (pick m c j) := by
      funext j k
      match k with
      | 0 =>
        refine (shifted_0 _ _ _ _).trans ?_
        rw [show in0 m ρ c (ix2 _ _) = _ from entry_0 m ρ c j, show in5 m ρ c (ix2 _ _) = _ from entry_5 m ρ c j]
        rfl
      | 1 =>
        refine (shifted_1 _ _ _ _).trans ?_
        rw [show in1 m ρ c (ix2 _ _) = _ from entry_1 m ρ c j, show in5 m ρ c (ix2 _ _) = _ from entry_5 m ρ c j]
        rfl
      | 2 =>
        refine (shifted_2 _ _ _ _).trans ?_
        rw [show in2 m ρ c (ix2 _ _) = _ from entry_2 m ρ c j, show in5 m ρ c (ix2 _ _) = _ from entry_5 m ρ c j]
        rfl
      | 3 =>
        refine (shifted_3 _ _ _ _).trans ?_
        rw [show in3 m ρ c (ix2 _ _) = _ from entry_3 m ρ c j, show in5 m ρ c (ix2 _ _) = _ from entry_5 m ρ c j]
        rfl
    rw [e]
    rfl

/-! ## The results -/

/-- The contents after the second region, at a pick. -/
theorem mark_iff (j : Fin 2000) : half < (KernelArr.kept m ρ c : S16x128.Idx → EReal) (place j) ↔ Final (logits m c) (boxes m c) (pick m c) j := by
  classical
  rw [kept_at]
  exact half_lt _

open Classical in
theorem out_0_at (j : Fin 2000) : (W20 m ρ c (Proc.devRef .tc main_v26_0) : S16x128.Idx → EReal) (place j)
    = if Final (logits m c) (boxes m c) (pick m c) j then box (boxes m c) (pick m c j) 0 else 0 := by
  rw [result_0]
  refine (boxed_0 _ _ _ _).trans ?_
  rw [show in0 m ρ c (ix2 _ _) = _ from entry_0 m ρ c j]
  exact if_congr (mark_iff m ρ c j) rfl rfl

open Classical in
theorem out_1_at (j : Fin 2000) : (W20 m ρ c (Proc.devRef .tc main_v26_1) : S16x128.Idx → EReal) (place j)
    = if Final (logits m c) (boxes m c) (pick m c) j then box (boxes m c) (pick m c j) 1 else 0 := by
  rw [result_1]
  refine (boxed_1 _ _ _ _).trans ?_
  rw [show in1 m ρ c (ix2 _ _) = _ from entry_1 m ρ c j]
  exact if_congr (mark_iff m ρ c j) rfl rfl

open Classical in
theorem out_2_at (j : Fin 2000) : (W20 m ρ c (Proc.devRef .tc main_v26_2) : S16x128.Idx → EReal) (place j)
    = if Final (logits m c) (boxes m c) (pick m c) j then box (boxes m c) (pick m c j) 2 else 0 := by
  rw [result_2]
  refine (boxed_2 _ _ _ _).trans ?_
  rw [show in2 m ρ c (ix2 _ _) = _ from entry_2 m ρ c j]
  exact if_congr (mark_iff m ρ c j) rfl rfl

open Classical in
theorem out_3_at (j : Fin 2000) : (W20 m ρ c (Proc.devRef .tc main_v26_3) : S16x128.Idx → EReal) (place j)
    = if Final (logits m c) (boxes m c) (pick m c) j then box (boxes m c) (pick m c j) 3 else 0 := by
  rw [result_3]
  refine (boxed_3 _ _ _ _).trans ?_
  rw [show in3 m ρ c (ix2 _ _) = _ from entry_3 m ρ c j]
  exact if_congr (mark_iff m ρ c j) rfl rfl

open Classical in
theorem out_4_at (j : Fin 2000) : (W20 m ρ c (Proc.devRef .tc main_v26_4) : S16x128.Idx → EReal) (place j)
    = if Final (logits m c) (boxes m c) (pick m c) j then scores (logits m c) (pick m c j) else 0 := by
  rw [result_4]
  refine (scored _ _ _ _).trans ?_
  rw [show in4 m ρ c (ix2 _ _) = _ from entry_4 m ρ c j]
  exact if_congr (mark_iff m ρ c j) rfl rfl

open Classical in
theorem out_5_at (j : Fin 2000) : (W20 m ρ c (Proc.devRef .tc main_v26_5) : S16x128.Idx → BitVec 32) (place j)
    = if Final (logits m c) (boxes m c) (pick m c) j then word (pick m c j) else 0#32 := by
  rw [result_5]
  refine (labelled _ _ _ _).trans ?_
  rw [show in5 m ρ c (ix2 _ _) = _ from entry_5 m ρ c j]
  exact if_congr (mark_iff m ρ c j) rfl rfl

open Classical in
theorem out_6_at (j : Fin 2000) : (W20 m ρ c (Proc.devRef .tc main_v26_6) : S16x128.Idx → EReal) (place j)
    = if Final (logits m c) (boxes m c) (pick m c) j then (1 : EReal) else (0 : EReal) := by
  rw [result_6]
  refine (marked _ _ _).trans ?_
  exact if_congr (mark_iff m ρ c j) rfl rfl

/-- The labels. -/
theorem labels_at (j : Fin 2000) : (W21 m ρ c (Proc.devRef .tc main_v38) : S2000.Idx → BitVec 32) (ix1 j)
    = labels (logits m c) (boxes m c) (pick m c) j := by
  show (after hostOps2 (W20 m ρ c) (Proc.devRef .tc main_v38) : S2000.Idx → BitVec 32) (ix1 j) = _
  after_reads_at
  exact out_5_at m ρ c j

/-- The marks. -/
theorem valids_at (j : Fin 2000) : (W21 m ρ c (Proc.devRef .tc main_v48) : S2000.Idx → BitVec 1) (ix1 j)
    = valids (logits m c) (boxes m c) (pick m c) j := by
  classical
  show (after hostOps2 (W20 m ρ c) (Proc.devRef .tc main_v48) : S2000.Idx → BitVec 1) (ix1 j) = _
  after_reads_at
  have e := (congrArg (fun x : EReal => half < x) (out_6_at m ρ c j)).to_iff.trans (half_lt _)
  unfold valids
  exact congrArg BitVec.ofBool (decide_eq_decide.mpr e)

/-- The detections. -/
theorem dets_at (j : Fin 2000) (k : Fin 5) : (W21 m ρ c (Proc.devRef .tc main_v46) : S2000x5.Idx → EReal) (ix2 j k)
    = dets (logits m c) (boxes m c) (pick m c) j k := by
  show (after hostOps2 (W20 m ρ c) (Proc.devRef .tc main_v46) : S2000x5.Idx → EReal) (ix2 j k) = _
  match k with
  | 0 =>
    after_reads_at
    after_reads_at
    exact out_0_at m ρ c j
  | 1 =>
    after_reads_at
    after_reads_at
    exact out_1_at m ρ c j
  | 2 =>
    after_reads_at
    after_reads_at
    exact out_2_at m ρ c j
  | 3 =>
    after_reads_at
    after_reads_at
    exact out_3_at m ρ c j
  | 4 =>
    after_reads_at
    after_reads_at
    exact out_4_at m ρ c j

end Cert.KernelHost
-- ==== Proof.KernelRun.lean ====
module

public import proofs.«01_k».proof.Proof.Gen.KernelIdeal.Frame

/-!
# The kernel program's run

Every run of the program ends, with each result at the contents the last host operations leave and both arguments as they
were.
-/

@[expose] public section

set_option maxHeartbeats 1000000
set_option maxRecDepth 8192

noncomputable section

namespace Cert.KernelRun

open Idealize.ShloMosaic Idealize.ShloMosaic.TcCoe Idealize.ShloMosaic.Tactic
open Idealize.ShloMosaic.Rounds
open Idealize.ShloMosaic.Pipeline (Dat Cfg Window BodyObligation cellOf)
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The results are what the last stretch of host operations leaves; the arguments are unchanged. -/
theorem run : θ_run defs (onTc (τ := τ) (main (F := F))) ⟨m, fun _ => 0, ρ⟩ (fun r => ∀ c : Dev nD,
      r.2.mem ((c.tc : Thread nD τ).loc main_v46) = W21 m ρ c (Proc.devRef .tc main_v46)
      ∧ r.2.mem ((c.tc : Thread nD τ).loc main_v38) = W21 m ρ c (Proc.devRef .tc main_v38)
      ∧ r.2.mem ((c.tc : Thread nD τ).loc main_v48) = W21 m ρ c (Proc.devRef .tc main_v48)
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W21 m ρ c b)
    (hfin := fun c s' => by
      iintro ⟨⟨Hh, -⟩, HSI⟩
      unfold StableHlo.held
      imodintro
      iapply (pointsTo_read_all (Pipeline.ucRefs τ sig) (fun b => (((c : Thread nD τ)).1, b)) (W21 m ρ c) s')
      isplitl [Hh] <;> iassumption)
    (hQ := fun s h hz c =>
      ⟨h c _ (mem_uc main_v46 (by decide)), h c _ (mem_uc main_v38 (by decide)), h c _ (mem_uc main_v48 (by decide)),
       (h c _ (mem_uc main_arg0 (by decide))).trans (W21_main_arg0 m ρ c),
       (h c _ (mem_uc main_arg1 (by decide))).trans (W21_main_arg1 m ρ c)⟩)

end Cert.KernelRun
-- ==== Proof.RefStretch.lean ====
module

public import proofs.«01_k».proof.Proof.RefRun
public import proofs.«01_k».proof.Proof.Takes
public import Idealize.ShloMosaic.Lib.Pointwise
public import Idealize.ShloMosaic.Lib.StableHlo.ReadAt

/-!
# The reference's stretches before its loop

Each stretch of host operations is read at one place, over the contents it is entered with: the scores of all
places, the cut boxes, the moved boxes, the picks, the lookups at the picks, and the overlaps of the picks.
-/

@[expose] public section

set_option maxRecDepth 16384

noncomputable section

namespace Cert.RefValue

open Idealize.ShloMosaic Idealize.ShloMosaic.TcCoe Idealize.ShloMosaic.StableHlo Idealize.SL.Sem Idealize.ShloMosaic.Pointwise
open Cert.ReferenceIdeal Cert.ReferenceIdeal.Gen Cert.ReferenceIdeal.Value Cert.Detect

section Stretches

variable (V : Valuation τ sig (Elt Ideal)) (X : Fin 20000 → Fin 81 → EReal) (B : Fin 20000 → Fin 4 → EReal)

/-- The softmax of the rows, flattened. -/
theorem softmax_at (hX : ∀ r k, (V (Proc.devRef .tc main_arg0) : S20000x81.Idx → EReal) (ix2 r k) = X r k) (p : Fin 1620000) :
    (after hostOps0 V (Proc.devRef .tc main_v11) : S1620000.Idx → EReal) (ix1 p) = score (X (rowAt p)) (classAt p) := by
  have e : (fun k => (V (Proc.devRef .tc main_arg0) : S20000x81.Idx → EReal) (ix2 (rowAt p) k)) = X (rowAt p) := funext fun k => hX _ k
  after_reads_at
  refine Eq.trans (b := (fun f : Fin 81 → EReal => Ideal.div (Ideal.exp (f (classAt p) - max seed (peak f)))
    (∑ k', Ideal.exp (f k' - max seed (peak f))))
      (fun k => (V (Proc.devRef .tc main_arg0) : S20000x81.Idx → EReal) (ix2 (rowAt p) k))) rfl ?_
  rw [e]
  beta_reduce
  rw [max_peak]
  rfl

/-- Each row's box, once for every class. -/
theorem spread_at (hB : ∀ r k, (V (Proc.devRef .tc main_arg1) : S20000x4.Idx → EReal) (ix2 r k) = B r k) (p : Fin 1620000) (k : Fin 4) :
    (after hostOps0 V (Proc.devRef .tc main_v13) : S1620000x4.Idx → EReal) (ix2 p k) = B (rowAt p) k := by
  after_reads_at
  exact hB _ _

/-- The first column of the boxes. -/
theorem side_0 (hB : ∀ r k, (V (Proc.devRef .tc main_arg1) : S20000x4.Idx → EReal) (ix2 r k) = B r k) (p : Fin 1620000) :
    (after hostOps0 V (Proc.devRef .tc main_v15) : S1620000.Idx → EReal) (ix1 p) = B (rowAt p) 0 := by
  after_reads_at
  exact hB _ _

theorem least_0 : (after hostOps0 V (Proc.devRef .tc main_cst_2) : S_.Idx → EReal) ix0 = (0 : EReal) := by
  after_reads_at

theorem most_0 : (after hostOps0 V (Proc.devRef .tc main_cst_3) : S_.Idx → EReal) ix0 = cap 0 := by
  after_reads_at
  rfl

theorem cut_0 (hlo : (V (Proc.devRef .tc main_cst_2) : S_.Idx → EReal) ix0 = (0 : EReal))
    (hhi : (V (Proc.devRef .tc main_cst_3) : S_.Idx → EReal) ix0 = cap 0)
    (hB : ∀ p, (V (Proc.devRef .tc main_v15) : S1620000.Idx → EReal) (ix1 p) = B (rowAt p) 0) (p : Fin 1620000) :
    (after hostOps0_1 V (Proc.devRef .tc main_v16) : S1620000.Idx → EReal) (ix1 p) = box B p 0 := by
  after_reads_at
  refine Eq.trans (b := (fun a b c : EReal => min a (max b c)) ((V (Proc.devRef .tc main_cst_3) : S_.Idx → EReal) ix0)
    ((V (Proc.devRef .tc main_cst_2) : S_.Idx → EReal) ix0) ((V (Proc.devRef .tc main_v15) : S1620000.Idx → EReal) (ix1 p))) rfl ?_
  rw [hlo, hhi, hB]
  rfl

theorem side_1 (hB : ∀ p k, (V (Proc.devRef .tc main_v13) : S1620000x4.Idx → EReal) (ix2 p k) = B (rowAt p) k) (p : Fin 1620000) :
    (after hostOps0_2 V (Proc.devRef .tc main_v18) : S1620000.Idx → EReal) (ix1 p) = B (rowAt p) 1 := by
  after_reads_at
  exact hB _ _

theorem least_1 : (after hostOps0_2 V (Proc.devRef .tc main_cst_4) : S_.Idx → EReal) ix0 = (0 : EReal) := by
  after_reads_at

theorem most_1 : (after hostOps0_2 V (Proc.devRef .tc main_cst_5) : S_.Idx → EReal) ix0 = cap 1 := by
  after_reads_at
  rfl

theorem cut_1 (hlo : (V (Proc.devRef .tc main_cst_4) : S_.Idx → EReal) ix0 = (0 : EReal))
    (hhi : (V (Proc.devRef .tc main_cst_5) : S_.Idx → EReal) ix0 = cap 1)
    (hB : ∀ p, (V (Proc.devRef .tc main_v18) : S1620000.Idx → EReal) (ix1 p) = B (rowAt p) 1) (p : Fin 1620000) :
    (after hostOps0_3 V (Proc.devRef .tc main_v19) : S1620000.Idx → EReal) (ix1 p) = box B p 1 := by
  after_reads_at
  refine Eq.trans (b := (fun a b c : EReal => min a (max b c)) ((V (Proc.devRef .tc main_cst_5) : S_.Idx → EReal) ix0)
    ((V (Proc.devRef .tc main_cst_4) : S_.Idx → EReal) ix0) ((V (Proc.devRef .tc main_v18) : S1620000.Idx → EReal) (ix1 p))) rfl ?_
  rw [hlo, hhi, hB]
  rfl

theorem side_2 (hB : ∀ p k, (V (Proc.devRef .tc main_v13) : S1620000x4.Idx → EReal) (ix2 p k) = B (rowAt p) k) (p : Fin 1620000) :
    (after hostOps0_4 V (Proc.devRef .tc main_v21) : S1620000.Idx → EReal) (ix1 p) = B (rowAt p) 2 := by
  after_reads_at
  exact hB _ _

theorem least_2 : (after hostOps0_4 V (Proc.devRef .tc main_cst_6) : S_.Idx → EReal) ix0 = (0 : EReal) := by
  after_reads_at

theorem most_2 : (after hostOps0_4 V (Proc.devRef .tc main_cst_7) : S_.Idx → EReal) ix0 = cap 2 := by
  after_reads_at
  rfl

theorem cut_2 (hlo : (V (Proc.devRef .tc main_cst_6) : S_.Idx → EReal) ix0 = (0 : EReal))
    (hhi : (V (Proc.devRef .tc main_cst_7) : S_.Idx → EReal) ix0 = cap 2)
    (hB : ∀ p, (V (Proc.devRef .tc main_v21) : S1620000.Idx → EReal) (ix1 p) = B (rowAt p) 2) (p : Fin 1620000) :
    (after hostOps0_5 V (Proc.devRef .tc main_v22) : S1620000.Idx → EReal) (ix1 p) = box B p 2 := by
  after_reads_at
  refine Eq.trans (b := (fun a b c : EReal => min a (max b c)) ((V (Proc.devRef .tc main_cst_7) : S_.Idx → EReal) ix0)
    ((V (Proc.devRef .tc main_cst_6) : S_.Idx → EReal) ix0) ((V (Proc.devRef .tc main_v21) : S1620000.Idx → EReal) (ix1 p))) rfl ?_
  rw [hlo, hhi, hB]
  rfl

theorem side_3 (hB : ∀ p k, (V (Proc.devRef .tc main_v13) : S1620000x4.Idx → EReal) (ix2 p k) = B (rowAt p) k) (p : Fin 1620000) :
    (after hostOps0_6 V (Proc.devRef .tc main_v24) : S1620000.Idx → EReal) (ix1 p) = B (rowAt p) 3 := by
  after_reads_at
  exact hB _ _

theorem least_3 : (after hostOps0_6 V (Proc.devRef .tc main_cst_8) : S_.Idx → EReal) ix0 = (0 : EReal) := by
  after_reads_at

theorem most_3 : (after hostOps0_6 V (Proc.devRef .tc main_cst_9) : S_.Idx → EReal) ix0 = cap 3 := by
  after_reads_at
  rfl

theorem cut_3 (hlo : (V (Proc.devRef .tc main_cst_8) : S_.Idx → EReal) ix0 = (0 : EReal))
    (hhi : (V (Proc.devRef .tc main_cst_9) : S_.Idx → EReal) ix0 = cap 3)
    (hB : ∀ p, (V (Proc.devRef .tc main_v24) : S1620000.Idx → EReal) (ix1 p) = B (rowAt p) 3) (p : Fin 1620000) :
    (after hostOps0_7 V (Proc.devRef .tc main_v25) : S1620000.Idx → EReal) (ix1 p) = box B p 3 := by
  after_reads_at
  refine Eq.trans (b := (fun a b c : EReal => min a (max b c)) ((V (Proc.devRef .tc main_cst_9) : S_.Idx → EReal) ix0)
    ((V (Proc.devRef .tc main_cst_8) : S_.Idx → EReal) ix0) ((V (Proc.devRef .tc main_v24) : S1620000.Idx → EReal) (ix1 p))) rfl ?_
  rw [hlo, hhi, hB]
  rfl

/-- The cut boxes' columns put side by side. -/
theorem boxes_at (p : Fin 1620000) (k : Fin 4)
    (h0 : (V (Proc.devRef .tc main_v16) : S1620000.Idx → EReal) (ix1 p) = box B p 0)
    (h1 : (V (Proc.devRef .tc main_v19) : S1620000.Idx → EReal) (ix1 p) = box B p 1)
    (h2 : (V (Proc.devRef .tc main_v22) : S1620000.Idx → EReal) (ix1 p) = box B p 2)
    (h3 : (V (Proc.devRef .tc main_v25) : S1620000.Idx → EReal) (ix1 p) = box B p 3) :
    (after hostOps0_8 V (Proc.devRef .tc main_v30) : S1620000x4.Idx → EReal) (ix2 p k) = box B p k := by
  match k with
  | 0 =>
    after_reads_at
    after_reads_at
    exact h0
  | 1 =>
    after_reads_at
    after_reads_at
    exact h1
  | 2 =>
    after_reads_at
    after_reads_at
    exact h2
  | 3 =>
    after_reads_at
    after_reads_at
    exact h3

/-- The classes of the places. -/
theorem word_at (p : Fin 1620000) : (after hostOps0_8 V (Proc.devRef .tc main_v34) : S1620000.Idx → BitVec 32) (ix1 p) = word p := by
  after_reads_at
  rfl

/-- Which scores count. -/
theorem counts_at (p : Fin 1620000) : (after hostOps0_8 V (Proc.devRef .tc main_v39) : S1620000.Idx → BitVec 1) (ix1 p)
    = IntOp.andi (BitVec.ofBool (decide (Ideal.ofBits FTy.f32 1028443341#32 < (V (Proc.devRef .tc main_v11) : S1620000.Idx → EReal) (ix1 p))))
        (IntOp.cmpi .ne (BitVec.ofNat 32 (p.val % 81)) 0#32) := by
  after_reads_at

/-- The stand-in. -/
theorem standin_at : (after hostOps0_8 V (Proc.devRef .tc main_cst_11) : S_.Idx → EReal) ix0 = off := by
  after_reads_at
  rfl

/-- The scores that count. -/
theorem masked_at (p : Fin 1620000)
    (hs : (V (Proc.devRef .tc main_v11) : S1620000.Idx → EReal) (ix1 p) = score (X (rowAt p)) (classAt p))
    (hm : (V (Proc.devRef .tc main_v39) : S1620000.Idx → BitVec 1) (ix1 p)
      = IntOp.andi (BitVec.ofBool (decide (Ideal.ofBits FTy.f32 1028443341#32 < score (X (rowAt p)) (classAt p))))
        (IntOp.cmpi .ne (BitVec.ofNat 32 (p.val % 81)) 0#32))
    (ho : (V (Proc.devRef .tc main_cst_11) : S_.Idx → EReal) ix0 = off) :
    (after hostOps0_9 V (Proc.devRef .tc main_v40) : S1620000.Idx → EReal) (ix1 p) = scores X p := by
  after_reads_at
  refine Eq.trans (b := Scalar.select ((V (Proc.devRef .tc main_v39) : S1620000.Idx → BitVec 1) (ix1 p))
    ((V (Proc.devRef .tc main_v11) : S1620000.Idx → EReal) (ix1 p)) ((V (Proc.devRef .tc main_cst_11) : S_.Idx → EReal) ix0)) rfl ?_
  rw [hs, hm, ho]
  exact select_masked _ (p.val % 81) (by omega)

/-- The moved boxes. -/
theorem moved_at (p : Fin 1620000) (k : Fin 4)
    (hb : (V (Proc.devRef .tc main_v30) : S1620000x4.Idx → EReal) (ix2 p k) = box B p k)
    (hw : (V (Proc.devRef .tc main_v34) : S1620000.Idx → BitVec 32) (ix1 p) = word p) :
    (after hostOps0_10 V (Proc.devRef .tc main_v46) : S1620000x4.Idx → EReal) (ix2 p k) = moved B p k := by
  after_reads_at
  rw [hb, hw]
  rfl

/-- The picks' scores and places. -/
theorem picks_at (hs : ∀ p, (V (Proc.devRef .tc main_v40) : S1620000.Idx → EReal) (ix1 p) = scores X p) (j : Fin 2000) :
    (after hostOps0_10 V (Proc.devRef .tc main_values) : S2000.Idx → EReal) (ix1 j) = scores X (pickAll X j)
    ∧ (after hostOps0_10 V (Proc.devRef .tc main_indices) : S2000.Idx → BitVec 32) (ix1 j) = BitVec.ofNat 32 (pickAll X j).val := by
  have e : (fun i : Fin 1620000 => (V (Proc.devRef .tc main_v40) : S1620000.Idx → EReal) (ix1 i)) = scores X := funext hs
  have h := topK_vec (V (Proc.devRef .tc main_v40) : S1620000.Idx → EReal) sliceFits_S1620000_S2000 (by norm_num) j
  rw [e, hs] at h
  refine ⟨?_, ?_⟩
  · after_reads_at
    exact h.1
  · after_reads_at
    exact h.2

/-- The picks' boxes. -/
theorem look_11 (j : Fin 2000) (p : Fin 1620000) (hi : (V (Proc.devRef .tc main_indices) : S2000.Idx → BitVec 32) (ix1 j) = BitVec.ofNat 32 p.val)
    (k : Fin 4) : (after hostOps0_11 V (Proc.devRef .tc main_v47) : S2000x4.Idx → EReal) (ix2 j k)
      = (V (Proc.devRef .tc main_v30) : S1620000x4.Idx → EReal) (ix2 p k) := by
  after_reads_at
  refine (taken hi (n := 1619999) rfl (by omega) (by norm_num) _ _).trans ?_
  refine Routing.gather_row _ rfl rfl rfl rfl rfl _ _ j k p ?_ (by norm_num)
  pointwise
  exact (from_start hi (by omega)).trans hi

/-- The picks' moved boxes. -/
theorem look_12 (j : Fin 2000) (p : Fin 1620000) (hi : (V (Proc.devRef .tc main_indices) : S2000.Idx → BitVec 32) (ix1 j) = BitVec.ofNat 32 p.val)
    (k : Fin 4) : (after hostOps0_12 V (Proc.devRef .tc main_v48) : S2000x4.Idx → EReal) (ix2 j k)
      = (V (Proc.devRef .tc main_v46) : S1620000x4.Idx → EReal) (ix2 p k) := by
  after_reads_at
  refine (taken hi (n := 1619999) rfl (by omega) (by norm_num) _ _).trans ?_
  refine Routing.gather_row _ rfl rfl rfl rfl rfl _ _ j k p ?_ (by norm_num)
  pointwise
  exact (from_start hi (by omega)).trans hi

/-- The picks' classes. -/
theorem look_13 (j : Fin 2000) (p : Fin 1620000) (hi : (V (Proc.devRef .tc main_indices) : S2000.Idx → BitVec 32) (ix1 j) = BitVec.ofNat 32 p.val) :
    (after hostOps0_13 V (Proc.devRef .tc main_v49) : S2000.Idx → BitVec 32) (ix1 j)
      = (V (Proc.devRef .tc main_v34) : S1620000.Idx → BitVec 32) (ix1 p) := by
  after_reads_at
  refine (taken hi (n := 1619999) rfl (by omega) (by norm_num) _ _).trans ?_
  refine Routing.take_ap _ rfl rfl rfl rfl _ _ j p.isLt (by omega) ?_
  pointwise
  exact (from_start hi (by omega)).trans hi

/-- The overlap of every two picks. -/
theorem overlap_at (u : Fin 2000 → Fin 4 → EReal) (hu : ∀ j k, (V (Proc.devRef .tc main_v48) : S2000x4.Idx → EReal) (ix2 j k) = u j k) (i j : Fin 2000) :
    (after hostOps0_14 V (Proc.devRef .tc main_v104_0) : S2000x2000.Idx → EReal) (ix2 i j) = overlap (u i) (u j) := by
  after_reads_simp
  simp only [id_eq]
  clean_types
  pointwise
  simp only [hu]
  rfl

/-- The places of the picks in their order. -/
theorem number_at (j : Fin 2000) :
    (after hostOps0_14 V (Proc.devRef .tc main_v104_1) : S2000.Idx → BitVec 32) (ix1 j) = BitVec.ofNat 32 j.val := by
  after_reads_simp
  simp only [id_eq]
  clean_types
  pointwise

/-- The picks that are in at the loop's start. -/
theorem start_at (j : Fin 2000) :
    (after hostOps0_14 V (Proc.devRef .tc main_v104_4) : S2000.Idx → BitVec 1) (ix1 j)
      = BitVec.ofBool (decide (thr < (V (Proc.devRef .tc main_values) : S2000.Idx → EReal) (ix1 j))) := by
  after_reads_simp
  simp only [id_eq]
  clean_types
  pointwise
  rfl

/-- The loop's counter at its start. -/
theorem counter_at : (after hostOps0_14 V (Proc.devRef .tc main_v104_3) : S_.Idx → BitVec 32) ix0 = 0#32 := by
  after_reads_simp
  simp only [id_eq]
  clean_types
  pointwise

end Stretches

end Cert.RefValue
-- ==== Proof.RefEntry.lean ====
module

public import proofs.«01_k».proof.Proof.RefStretch

/-!
# The reference's buffers when its loop is entered

The stretches before the loop are run one after another; each buffer that the loop or the results use is read as a
function of the logits and the boxes.
-/

@[expose] public section

set_option maxRecDepth 16384

noncomputable section

namespace Cert.RefValue

open Idealize.ShloMosaic Idealize.ShloMosaic.TcCoe Idealize.ShloMosaic.StableHlo Idealize.SL.Sem Idealize.ShloMosaic.Pointwise
open Cert.ReferenceIdeal Cert.ReferenceIdeal.Gen Cert.ReferenceIdeal.Value Cert.Detect

variable (m : (ℓ : Loc nD τ sig) → Buf (Elt Ideal) ℓ) (c : Dev nD)

/-- The logits. -/
def logits (r : Fin 20000) (k : Fin 81) : EReal := (m ((c : Thread nD τ).loc main_arg0) : S20000x81.Idx → EReal) (ix2 r k)

/-- The boxes. -/
def boxes (r : Fin 20000) (k : Fin 4) : EReal := (m ((c : Thread nD τ).loc main_arg1) : S20000x4.Idx → EReal) (ix2 r k)

/-- The reference's picks. -/
abbrev pick : Fin 2000 → Fin 1620000 := pickAll (logits m c)

/-- The contents at the program's start. -/
def E0 : Valuation τ sig (Elt Ideal) := launchContents m c

def E1 : Valuation τ sig (Elt Ideal) := after hostOps0 (E0 m c)

theorem E1_of (r : Ref sig .tc) (h : r ∉ hostOps0_W) : E1 m c (Proc.devRef .tc r) = E0 m c (Proc.devRef .tc r) :=
  after_of_writes_sub hostOps0 _ hostOps0_writes h

def E2 : Valuation τ sig (Elt Ideal) := after hostOps0_1 (E1 m c)

theorem E2_of (r : Ref sig .tc) (h : r ∉ hostOps0_1_W) : E2 m c (Proc.devRef .tc r) = E1 m c (Proc.devRef .tc r) :=
  after_of_writes_sub hostOps0_1 _ hostOps0_1_writes h

def E3 : Valuation τ sig (Elt Ideal) := after hostOps0_2 (E2 m c)

theorem E3_of (r : Ref sig .tc) (h : r ∉ hostOps0_2_W) : E3 m c (Proc.devRef .tc r) = E2 m c (Proc.devRef .tc r) :=
  after_of_writes_sub hostOps0_2 _ hostOps0_2_writes h

def E4 : Valuation τ sig (Elt Ideal) := after hostOps0_3 (E3 m c)

theorem E4_of (r : Ref sig .tc) (h : r ∉ hostOps0_3_W) : E4 m c (Proc.devRef .tc r) = E3 m c (Proc.devRef .tc r) :=
  after_of_writes_sub hostOps0_3 _ hostOps0_3_writes h

def E5 : Valuation τ sig (Elt Ideal) := after hostOps0_4 (E4 m c)

theorem E5_of (r : Ref sig .tc) (h : r ∉ hostOps0_4_W) : E5 m c (Proc.devRef .tc r) = E4 m c (Proc.devRef .tc r) :=
  after_of_writes_sub hostOps0_4 _ hostOps0_4_writes h

def E6 : Valuation τ sig (Elt Ideal) := after hostOps0_5 (E5 m c)

theorem E6_of (r : Ref sig .tc) (h : r ∉ hostOps0_5_W) : E6 m c (Proc.devRef .tc r) = E5 m c (Proc.devRef .tc r) :=
  after_of_writes_sub hostOps0_5 _ hostOps0_5_writes h

def E7 : Valuation τ sig (Elt Ideal) := after hostOps0_6 (E6 m c)

theorem E7_of (r : Ref sig .tc) (h : r ∉ hostOps0_6_W) : E7 m c (Proc.devRef .tc r) = E6 m c (Proc.devRef .tc r) :=
  after_of_writes_sub hostOps0_6 _ hostOps0_6_writes h

def E8 : Valuation τ sig (Elt Ideal) := after hostOps0_7 (E7 m c)

theorem E8_of (r : Ref sig .tc) (h : r ∉ hostOps0_7_W) : E8 m c (Proc.devRef .tc r) = E7 m c (Proc.devRef .tc r) :=
  after_of_writes_sub hostOps0_7 _ hostOps0_7_writes h

def E9 : Valuation τ sig (Elt Ideal) := after hostOps0_8 (E8 m c)

theorem E9_of (r : Ref sig .tc) (h : r ∉ hostOps0_8_W) : E9 m c (Proc.devRef .tc r) = E8 m c (Proc.devRef .tc r) :=
  after_of_writes_sub hostOps0_8 _ hostOps0_8_writes h

def E10 : Valuation τ sig (Elt Ideal) := after hostOps0_9 (E9 m c)

theorem E10_of (r : Ref sig .tc) (h : r ∉ hostOps0_9_W) : E10 m c (Proc.devRef .tc r) = E9 m c (Proc.devRef .tc r) :=
  after_of_writes_sub hostOps0_9 _ hostOps0_9_writes h

def E11 : Valuation τ sig (Elt Ideal) := after hostOps0_10 (E10 m c)

theorem E11_of (r : Ref sig .tc) (h : r ∉ hostOps0_10_W) : E11 m c (Proc.devRef .tc r) = E10 m c (Proc.devRef .tc r) :=
  after_of_writes_sub hostOps0_10 _ hostOps0_10_writes h

def E12 : Valuation τ sig (Elt Ideal) := after hostOps0_11 (E11 m c)

theorem E12_of (r : Ref sig .tc) (h : r ∉ hostOps0_11_W) : E12 m c (Proc.devRef .tc r) = E11 m c (Proc.devRef .tc r) :=
  after_of_writes_sub hostOps0_11 _ hostOps0_11_writes h

def E13 : Valuation τ sig (Elt Ideal) := after hostOps0_12 (E12 m c)

theorem E13_of (r : Ref sig .tc) (h : r ∉ hostOps0_12_W) : E13 m c (Proc.devRef .tc r) = E12 m c (Proc.devRef .tc r) :=
  after_of_writes_sub hostOps0_12 _ hostOps0_12_writes h

def E14 : Valuation τ sig (Elt Ideal) := after hostOps0_13 (E13 m c)

theorem E14_of (r : Ref sig .tc) (h : r ∉ hostOps0_13_W) : E14 m c (Proc.devRef .tc r) = E13 m c (Proc.devRef .tc r) :=
  after_of_writes_sub hostOps0_13 _ hostOps0_13_writes h

def E15 : Valuation τ sig (Elt Ideal) := after hostOps0_14 (E14 m c)

theorem E15_of (r : Ref sig .tc) (h : r ∉ hostOps0_14_W) : E15 m c (Proc.devRef .tc r) = E14 m c (Proc.devRef .tc r) :=
  after_of_writes_sub hostOps0_14 _ hostOps0_14_writes h

theorem entry_eq : entry m c = E15 m c := by
  unfold entry entryContents
  simp only [afterL_cons, afterL_nil]
  rfl

theorem E0_logits (r : Fin 20000) (k : Fin 81) : (E0 m c (Proc.devRef .tc main_arg0) : S20000x81.Idx → EReal) (ix2 r k) = logits m c r k := rfl

theorem E0_boxes (r : Fin 20000) (k : Fin 4) : (E0 m c (Proc.devRef .tc main_arg1) : S20000x4.Idx → EReal) (ix2 r k) = boxes m c r k := rfl

theorem E1_softmax (p : Fin 1620000) : (E1 m c (Proc.devRef .tc main_v11) : S1620000.Idx → EReal) (ix1 p) = score (logits m c (rowAt p)) (classAt p) :=
  softmax_at (E0 m c) (logits m c) (E0_logits m c) p

theorem E1_spread (p : Fin 1620000) (k : Fin 4) : (E1 m c (Proc.devRef .tc main_v13) : S1620000x4.Idx → EReal) (ix2 p k) = boxes m c (rowAt p) k :=
  spread_at (E0 m c) (boxes m c) (E0_boxes m c) p k

theorem E2_cut (p : Fin 1620000) : (E2 m c (Proc.devRef .tc main_v16) : S1620000.Idx → EReal) (ix1 p) = box (boxes m c) p 0 :=
  cut_0 (E1 m c) (boxes m c) (least_0 (E0 m c)) (most_0 (E0 m c)) (side_0 (E0 m c) (boxes m c) (E0_boxes m c)) p

theorem E4_cut (p : Fin 1620000) : (E4 m c (Proc.devRef .tc main_v19) : S1620000.Idx → EReal) (ix1 p) = box (boxes m c) p 1 := by
  refine cut_1 (E3 m c) (boxes m c) (least_1 (E2 m c)) (most_1 (E2 m c)) (side_1 (E2 m c) (boxes m c) fun q k => ?_) p
  rw [E2_of m c main_v13 (by decide)]
  exact E1_spread m c q k

theorem E6_cut (p : Fin 1620000) : (E6 m c (Proc.devRef .tc main_v22) : S1620000.Idx → EReal) (ix1 p) = box (boxes m c) p 2 := by
  refine cut_2 (E5 m c) (boxes m c) (least_2 (E4 m c)) (most_2 (E4 m c)) (side_2 (E4 m c) (boxes m c) fun q k => ?_) p
  rw [E4_of m c main_v13 (by decide), E3_of m c main_v13 (by decide), E2_of m c main_v13 (by decide)]
  exact E1_spread m c q k

theorem E8_cut (p : Fin 1620000) : (E8 m c (Proc.devRef .tc main_v25) : S1620000.Idx → EReal) (ix1 p) = box (boxes m c) p 3 := by
  refine cut_3 (E7 m c) (boxes m c) (least_3 (E6 m c)) (most_3 (E6 m c)) (side_3 (E6 m c) (boxes m c) fun q k => ?_) p
  rw [E6_of m c main_v13 (by decide), E5_of m c main_v13 (by decide), E4_of m c main_v13 (by decide), E3_of m c main_v13 (by decide), E2_of m c main_v13 (by decide)]
  exact E1_spread m c q k

theorem E9_boxes (p : Fin 1620000) (k : Fin 4) : (E9 m c (Proc.devRef .tc main_v30) : S1620000x4.Idx → EReal) (ix2 p k) = box (boxes m c) p k := by
  refine boxes_at (E8 m c) (boxes m c) p k ?_ ?_ ?_ ?_
  · rw [E8_of m c main_v16 (by decide), E7_of m c main_v16 (by decide), E6_of m c main_v16 (by decide), E5_of m c main_v16 (by decide), E4_of m c main_v16 (by decide), E3_of m c main_v16 (by decide)]
    exact E2_cut m c p
  · rw [E8_of m c main_v19 (by decide), E7_of m c main_v19 (by decide), E6_of m c main_v19 (by decide), E5_of m c main_v19 (by decide)]
    exact E4_cut m c p
  · rw [E8_of m c main_v22 (by decide), E7_of m c main_v22 (by decide)]
    exact E6_cut m c p
  · exact E8_cut m c p

theorem E9_word (p : Fin 1620000) : (E9 m c (Proc.devRef .tc main_v34) : S1620000.Idx → BitVec 32) (ix1 p) = word p := word_at (E8 m c) p

theorem E8_softmax (p : Fin 1620000) : (E8 m c (Proc.devRef .tc main_v11) : S1620000.Idx → EReal) (ix1 p) = score (logits m c (rowAt p)) (classAt p) := by
  rw [E8_of m c main_v11 (by decide), E7_of m c main_v11 (by decide), E6_of m c main_v11 (by decide), E5_of m c main_v11 (by decide), E4_of m c main_v11 (by decide), E3_of m c main_v11 (by decide), E2_of m c main_v11 (by decide)]
  exact E1_softmax m c p

theorem E10_scores (p : Fin 1620000) : (E10 m c (Proc.devRef .tc main_v40) : S1620000.Idx → EReal) (ix1 p) = scores (logits m c) p := by
  refine masked_at (E9 m c) (logits m c) p ?_ ?_ (standin_at (E8 m c))
  · rw [E9_of m c main_v11 (by decide)]
    exact E8_softmax m c p
  · refine (counts_at (E8 m c) p).trans ?_
    rw [E8_softmax]

theorem E11_moved (p : Fin 1620000) (k : Fin 4) : (E11 m c (Proc.devRef .tc main_v46) : S1620000x4.Idx → EReal) (ix2 p k) = moved (boxes m c) p k := by
  refine moved_at (E10 m c) (boxes m c) p k ?_ ?_
  · rw [E10_of m c main_v30 (by decide)]
    exact E9_boxes m c p k
  · rw [E10_of m c main_v34 (by decide)]
    exact E9_word m c p

theorem E11_values (j : Fin 2000) : (E11 m c (Proc.devRef .tc main_values) : S2000.Idx → EReal) (ix1 j) = scores (logits m c) (pick m c j) :=
  (picks_at (E10 m c) (logits m c) (E10_scores m c) j).1

theorem E11_places (j : Fin 2000) : (E11 m c (Proc.devRef .tc main_indices) : S2000.Idx → BitVec 32) (ix1 j) = BitVec.ofNat 32 (pick m c j).val :=
  (picks_at (E10 m c) (logits m c) (E10_scores m c) j).2

theorem E12_box (j : Fin 2000) (k : Fin 4) : (E12 m c (Proc.devRef .tc main_v47) : S2000x4.Idx → EReal) (ix2 j k) = box (boxes m c) (pick m c j) k := by
  refine (look_11 (E11 m c) j (pick m c j) (E11_places m c j) k).trans ?_
  rw [E11_of m c main_v30 (by decide), E10_of m c main_v30 (by decide)]
  exact E9_boxes m c _ k

theorem E13_moved (j : Fin 2000) (k : Fin 4) : (E13 m c (Proc.devRef .tc main_v48) : S2000x4.Idx → EReal) (ix2 j k) = moved (boxes m c) (pick m c j) k := by
  refine (look_12 (E12 m c) j (pick m c j) ?_ k).trans ?_
  · rw [E12_of m c main_indices (by decide)]
    exact E11_places m c j
  · rw [E12_of m c main_v46 (by decide)]
    exact E11_moved m c _ k

theorem E14_word (j : Fin 2000) : (E14 m c (Proc.devRef .tc main_v49) : S2000.Idx → BitVec 32) (ix1 j) = word (pick m c j) := by
  refine (look_13 (E13 m c) j (pick m c j) ?_).trans ?_
  · rw [E13_of m c main_indices (by decide), E12_of m c main_indices (by decide)]
    exact E11_places m c j
  · rw [E13_of m c main_v34 (by decide), E12_of m c main_v34 (by decide), E11_of m c main_v34 (by decide), E10_of m c main_v34 (by decide)]
    exact E9_word m c _

/-! ## What the loop and the results find -/

/-- The picks' scores. -/
theorem entry_score (j : Fin 2000) : (entry m c (Proc.devRef .tc main_values) : S2000.Idx → EReal) (ix1 j) = scores (logits m c) (pick m c j) := by
  rw [entry_eq]
  rw [E15_of m c main_values (by decide), E14_of m c main_values (by decide), E13_of m c main_values (by decide), E12_of m c main_values (by decide)]
  exact E11_values m c j

/-- The picks' boxes. -/
theorem entry_box (j : Fin 2000) (k : Fin 4) : (entry m c (Proc.devRef .tc main_v47) : S2000x4.Idx → EReal) (ix2 j k) = box (boxes m c) (pick m c j) k := by
  rw [entry_eq]
  rw [E15_of m c main_v47 (by decide), E14_of m c main_v47 (by decide), E13_of m c main_v47 (by decide)]
  exact E12_box m c j k

/-- The picks' labels. -/
theorem entry_word (j : Fin 2000) : (entry m c (Proc.devRef .tc main_v49) : S2000.Idx → BitVec 32) (ix1 j) = word (pick m c j) := by
  rw [entry_eq]
  rw [E15_of m c main_v49 (by decide)]
  exact E14_word m c j

/-- The picks' overlaps. -/
theorem entry_overlap (i j : Fin 2000) : (entry m c (Proc.devRef .tc main_v104_0) : S2000x2000.Idx → EReal) (ix2 i j)
    = overlap (moved (boxes m c) (pick m c i)) (moved (boxes m c) (pick m c j)) := by
  rw [entry_eq]
  refine overlap_at (E14 m c) (fun j => moved (boxes m c) (pick m c j)) (fun j k => ?_) i j
  rw [E14_of m c main_v48 (by decide)]
  exact E13_moved m c j k

/-- The picks' numbers. -/
theorem entry_number (j : Fin 2000) : (entry m c (Proc.devRef .tc main_v104_1) : S2000.Idx → BitVec 32) (ix1 j) = BitVec.ofNat 32 j.val := by
  rw [entry_eq]
  exact number_at (E14 m c) j

/-- The loop's counter. -/
theorem entry_counter : (entry m c (Proc.devRef .tc main_v104_3) : S_.Idx → BitVec 32) ix0 = 0#32 := by
  rw [entry_eq]
  exact counter_at (E14 m c)

open Classical in
/-- The picks that are in at the loop's start. -/
theorem entry_start (j : Fin 2000) : (entry m c (Proc.devRef .tc main_v104_4) : S2000.Idx → BitVec 1) (ix1 j)
    = BitVec.ofBool (decide (Valid (logits m c) (pick m c) j)) := by
  rw [entry_eq]
  refine (start_at (E14 m c) j).trans ?_
  rw [E14_of m c main_values (by decide), E13_of m c main_values (by decide), E12_of m c main_values (by decide)]
  rw [E11_values]
  exact congrArg BitVec.ofBool (decide_eq_decide.mpr Iff.rfl)

end Cert.RefValue
-- ==== Proof.RefLoop.lean ====
module

public import proofs.«01_k».proof.Proof.RefEntry
public import Idealize.ShloMosaic.Lib.DynamicIndex

/-!
# The reference's loop

Before every trip the mask that the loop carries is the mask of the picks that are still in.
-/

@[expose] public section

set_option maxRecDepth 16384

noncomputable section

namespace Cert.RefValue

open Idealize.ShloMosaic Idealize.ShloMosaic.TcCoe Idealize.ShloMosaic.StableHlo Idealize.SL.Sem Idealize.ShloMosaic.Pointwise
open Cert.ReferenceIdeal Cert.ReferenceIdeal.Gen Cert.ReferenceIdeal.Value Cert.Detect

/-- One trip over the mask, as words: it reads row `t` of the overlaps and place `t` of the mask. -/
theorem trip_at (V : Valuation τ sig (Elt Ideal)) (t : ℕ) (ht : t < 2000)
    (hc : V (Proc.devRef .tc main_v104_3) = constantI S_ 32 (BitVec.ofNat 32 t)) (j : Fin 2000) :
    (afterL bodyI V (Proc.devRef .tc main_v104_4) : S2000.Idx → BitVec 1) (ix1 j)
      = IntOp.andi ((V (Proc.devRef .tc main_v104_4) : S2000.Idx → BitVec 1) (ix1 j))
        (~~~ IntOp.andi (IntOp.andi
            (BitVec.ofBool (decide (half < (V (Proc.devRef .tc main_v104_0) : S2000x2000.Idx → EReal) (ix2 (⟨t, ht⟩ : Fin 2000) j))))
            ((V (Proc.devRef .tc main_v104_4) : S2000.Idx → BitVec 1) (ix1 (⟨t, ht⟩ : Fin 2000))))
          (IntOp.cmpi .sgt ((V (Proc.devRef .tc main_v104_1) : S2000.Idx → BitVec 32) (ix1 j)) (BitVec.ofNat 32 t))) := by
  have h2 : S2000x2000.Slices ![t, 0] S1x2000 := ⟨rfl, fun a => by
    match a with
    | 0 => show t + 1 ≤ 2000; omega
    | 1 => show 0 + 2000 ≤ 2000; omega⟩
  have h1 : S2000.Slices ![t] S1 := ⟨rfl, fun a => by
    match a with
    | 0 => show t + 1 ≤ 2000; omega⟩
  rw [trip_main_v104_4]
  simp only [id_eq, res_main_while0b_v112]
  rw [hc]
  rw [Host.dynamicSlice_eq_extractStridedSlice (off := ![t, 0]) (hoff := h2) (hs := fun a => by
      match a with
      | 0 => exact toInt_wrap_ofNat t (by omega)
      | 1 => rfl),
    Host.dynamicSlice_eq_extractStridedSlice (off := ![t]) (hoff := h1) (hs := fun a => by
      match a with
      | 0 => exact toInt_wrap_ofNat t (by omega))]
  pointwise
  rfl

/-- The words of one trip as propositions. -/
theorem step_words (a o b l : Prop) [Decidable a] [Decidable o] [Decidable b] [Decidable l] [Decidable (a ∧ (b → l → ¬ o))] :
    IntOp.andi (BitVec.ofBool (decide a)) (~~~ IntOp.andi (IntOp.andi (BitVec.ofBool (decide o)) (BitVec.ofBool (decide b))) (BitVec.ofBool (decide l)))
      = BitVec.ofBool (decide (a ∧ (b → l → ¬ o))) := by
  by_cases ha : a <;> by_cases ho : o <;> by_cases hb : b <;> by_cases hl : l <;> simp [ha, ho, hb, hl, IntOp.andi]

variable (m : (ℓ : Loc nD τ sig) → Buf (Elt Ideal) ℓ) (c : Dev nD)

/-- The counter counts the trips. -/
theorem counter_trip (t : ℕ) : atK m t c (Proc.devRef .tc main_v104_3) = constantI S_ 32 (BitVec.ofNat 32 t) := by
  induction t with
  | zero =>
    funext i
    rw [show i = ix0 from funext fun a => a.elim0]
    exact entry_counter m c
  | succ t ih =>
    rw [show atK m (t + 1) c = afterL bodyI (after condOps (atK m t c)) from rfl, trip_main_v104_3,
      after_of_writes_sub condOps _ condOps_writes (by decide), ih]
    funext i
    show BitVec.ofNat 32 t + 1#32 = BitVec.ofNat 32 (t + 1)
    rw [BitVec.ofNat_add]

open Classical in
/-- Before trip `t` the mask holds the picks that are still in. -/
theorem keep_trip (t : ℕ) (ht : t ≤ 2000) (j : Fin 2000) : (keepAt m c t : S2000.Idx → BitVec 1) (ix1 j)
    = BitVec.ofBool (decide (Keep (Valid (logits m c) (pick m c)) (fun j => moved (boxes m c) (pick m c j)) t j)) := by
  induction t generalizing j with
  | zero => exact entry_start m c j
  | succ t ih =>
    have ht' : t < 2000 := by omega
    unfold keepAt at ih ⊢
    rw [show atK m (t + 1) c = afterL bodyI (after condOps (atK m t c)) from rfl]
    refine (trip_at _ t ht' ?_ j).trans ?_
    · rw [after_of_writes_sub condOps _ condOps_writes (by decide)]
      exact counter_trip m c t
    · rw [after_of_writes_sub condOps _ condOps_writes (r := main_v104_4) (by decide),
        after_of_writes_sub condOps _ condOps_writes (r := main_v104_0) (by decide),
        after_of_writes_sub condOps _ condOps_writes (r := main_v104_1) (by decide),
        atK_keep m c main_v104_0 (by decide) (by decide +kernel), atK_keep m c main_v104_1 (by decide) (by decide +kernel),
        ih (by omega) j, ih (by omega) ⟨t, ht'⟩, entry_overlap, entry_number, WordCmp.cmpi_sgt_ofNat (w := 32) (by omega) (by omega)]
      refine (step_words _ _ _ _).trans (congrArg BitVec.ofBool (decide_eq_decide.mpr ?_))
      exact ⟨fun h => ⟨h.1, fun _ => h.2⟩, fun h => ⟨h.1, h.2 ht'⟩⟩

end Cert.RefValue
-- ==== Proof.RefResult.lean ====
module

public import proofs.«01_k».proof.Proof.RefLoop

/-!
# The reference's results

Its three results, read at each index.
-/

@[expose] public section

set_option maxRecDepth 16384

noncomputable section

namespace Cert.RefValue

open Idealize.ShloMosaic Idealize.ShloMosaic.TcCoe Idealize.ShloMosaic.StableHlo Idealize.SL.Sem Idealize.ShloMosaic.Pointwise
open Cert.ReferenceIdeal Cert.ReferenceIdeal.Gen Cert.ReferenceIdeal.Value Cert.Detect

variable (m : (ℓ : Loc nD τ sig) → Buf (Elt Ideal) ℓ) (c : Dev nD)

open Classical in
/-- The last mask. -/
theorem mask_at (j : Fin 2000) : (keepAt m c 2000 : S2000.Idx → BitVec 1) (ix1 j)
    = BitVec.ofBool (decide (Final (logits m c) (boxes m c) (pick m c) j)) := keep_trip m c 2000 le_rfl j

/-- Which detections count. -/
theorem valids_at (j : Fin 2000) : (fin m c (Proc.devRef .tc main_v104_4) : S2000.Idx → BitVec 1) (ix1 j)
    = valids (logits m c) (boxes m c) (pick m c) j := by
  rw [fin_keep]
  exact mask_at m c j

/-- The detections' labels. -/
theorem labels_at (j : Fin 2000) : (fin m c (Proc.devRef .tc main_v110) : S2000.Idx → BitVec 32) (ix1 j)
    = labels (logits m c) (boxes m c) (pick m c) j := by
  rw [fin_labels]
  pointwise
  rw [mask_at, entry_word, select_decide]
  rfl

/-- The number that stands where a pick is not kept. -/
theorem zero_at : (id (constant (F := Ideal) S_ .f32 0x00000000#32) : S_.Idx → EReal) ix0 = (0 : EReal) := by
  simp only [id_eq]
  pointwise

/-- The detections: four coordinates and the score. -/
theorem dets_at (j : Fin 2000) (k : Fin 5) : (fin m c (Proc.devRef .tc main_v109) : S2000x5.Idx → EReal) (ix2 j k)
    = dets (logits m c) (boxes m c) (pick m c) j k := by
  classical
  rw [fin_dets]
  match k with
  | 0 =>
    pointwise
    rw [mask_at, entry_box, select_decide]
    exact if_congr Iff.rfl rfl zero_at
  | 1 =>
    pointwise
    rw [mask_at, entry_box, select_decide]
    exact if_congr Iff.rfl rfl zero_at
  | 2 =>
    pointwise
    rw [mask_at, entry_box, select_decide]
    exact if_congr Iff.rfl rfl zero_at
  | 3 =>
    pointwise
    rw [mask_at, entry_box, select_decide]
    exact if_congr Iff.rfl rfl zero_at
  | 4 =>
    pointwise
    rw [mask_at, entry_score, select_decide]
    exact if_congr Iff.rfl rfl zero_at

end Cert.RefValue
-- ==== Proof.Agree.lean ====
module

public import proofs.«01_k».proof.Defs
public import proofs.«01_k».proof.Proof.KernelValue
public import proofs.«01_k».proof.Proof.KernelRun
public import proofs.«01_k».proof.Proof.RefResult

/-!
# The kernel program and the reference agree

Each of the three results is the same function of the logits and the boxes, but for the picks: the reference picks from
all the scores, the kernel program from each row's nineteen greatest. The two picks are the same wherever a score
exceeds the threshold, and the results read no others.
-/

@[expose] public section

noncomputable section

namespace Cert.Agree

open Idealize.ShloMosaic Idealize.ShloMosaic.TcCoe Idealize.SL.Sem Idealize.ShloMosaic.Pointwise Cert.Detect

variable (m : (ℓ : Loc KernelIdeal.nD KernelIdeal.τ KernelIdeal.sig) → Buf (Elt Ideal) ℓ) (ρ : Dev KernelIdeal.nD → PrngReg)
  (m' : (ℓ : Loc ReferenceIdeal.nD ReferenceIdeal.τ ReferenceIdeal.sig) → Buf (Elt Ideal) ℓ) (c : Dev KernelIdeal.nD)

/-- The two programs are given the same logits. -/
theorem logits_eq (h : m' ((c.tc : Thread ReferenceIdeal.nD ReferenceIdeal.τ).loc ReferenceIdeal.main_arg0)
    = m ((c.tc : Thread KernelIdeal.nD KernelIdeal.τ).loc KernelIdeal.main_arg0)) : RefValue.logits m' c = KernelHost.logits m c :=
  funext fun r => funext fun k => congrFun h (ix2 r k)

/-- The two programs are given the same boxes. -/
theorem boxes_eq (h : m' ((c.tc : Thread ReferenceIdeal.nD ReferenceIdeal.τ).loc ReferenceIdeal.main_arg1)
    = m ((c.tc : Thread KernelIdeal.nD KernelIdeal.τ).loc KernelIdeal.main_arg1)) : RefValue.boxes m' c = KernelHost.boxes m c :=
  funext fun r => funext fun k => congrFun h (ix2 r k)

variable (h0 : m' ((c.tc : Thread ReferenceIdeal.nD ReferenceIdeal.τ).loc ReferenceIdeal.main_arg0)
    = m ((c.tc : Thread KernelIdeal.nD KernelIdeal.τ).loc KernelIdeal.main_arg0))
  (h1 : m' ((c.tc : Thread ReferenceIdeal.nD ReferenceIdeal.τ).loc ReferenceIdeal.main_arg1)
    = m ((c.tc : Thread KernelIdeal.nD KernelIdeal.τ).loc KernelIdeal.main_arg1))

include h0 h1

/-- The detections agree. -/
theorem dets_eq : RefValue.fin m' c (Proc.devRef .tc ReferenceIdeal.main_v109)
    = KernelIdeal.Gen.W21 m ρ c (Proc.devRef .tc KernelIdeal.main_v46) := by
  refine funext fun i => ?_
  obtain ⟨j, k, rfl⟩ : ∃ (j : Fin 2000) (k : Fin 5), i = ix2 j k := ⟨i 0, i 1, eq_ix2 i⟩
  refine (RefValue.dets_at m' c j k).trans (Eq.trans ?_ (KernelHost.dets_at m ρ c j k).symm)
  unfold RefValue.pick KernelHost.pick
  rw [logits_eq m m' c h0, boxes_eq m m' c h1]
  exact congrFun (congrFun (dets_congr (KernelHost.boxes m c) (valid_iff (KernelHost.logits m c)) (pick_eq (KernelHost.logits m c))).symm j) k

/-- The labels agree. -/
theorem labels_eq : RefValue.fin m' c (Proc.devRef .tc ReferenceIdeal.main_v110)
    = KernelIdeal.Gen.W21 m ρ c (Proc.devRef .tc KernelIdeal.main_v38) := by
  refine funext fun i => ?_
  obtain ⟨j, rfl⟩ : ∃ j : Fin 2000, i = ix1 j := ⟨i 0, eq_ix1 i⟩
  refine (RefValue.labels_at m' c j).trans (Eq.trans ?_ (KernelHost.labels_at m ρ c j).symm)
  unfold RefValue.pick KernelHost.pick
  rw [logits_eq m m' c h0, boxes_eq m m' c h1]
  exact congrFun (labels_congr (KernelHost.boxes m c) (valid_iff (KernelHost.logits m c)) (pick_eq (KernelHost.logits m c))).symm j

/-- The marks agree. -/
theorem valids_eq : RefValue.fin m' c (Proc.devRef .tc ReferenceIdeal.main_v104_4)
    = KernelIdeal.Gen.W21 m ρ c (Proc.devRef .tc KernelIdeal.main_v48) := by
  refine funext fun i => ?_
  obtain ⟨j, rfl⟩ : ∃ j : Fin 2000, i = ix1 j := ⟨i 0, eq_ix1 i⟩
  refine (RefValue.valids_at m' c j).trans (Eq.trans ?_ (KernelHost.valids_at m ρ c j).symm)
  unfold RefValue.pick KernelHost.pick
  rw [logits_eq m m' c h0, boxes_eq m m' c h1]
  exact congrFun (valids_congr (KernelHost.boxes m c) (valid_iff (KernelHost.logits m c)) (pick_eq (KernelHost.logits m c))).symm j

omit h0 h1

/-- The value claim. -/
theorem algebraic : @Cert.algebraic_KernelIdeal_ReferenceIdeal KernelIdeal.Gen.facts ReferenceIdeal.Gen.facts := by
  intro m g m' g' _ h
  refine ⟨fun c => KernelIdeal.Gen.W21 m g c (Proc.devRef .tc KernelIdeal.main_v46),
    fun c => KernelIdeal.Gen.W21 m g c (Proc.devRef .tc KernelIdeal.main_v38),
    fun c => KernelIdeal.Gen.W21 m g c (Proc.devRef .tc KernelIdeal.main_v48), KernelRun.run m g, ?_⟩
  refine (θ_run ReferenceIdeal.defs _ _).mono (fun r hr c => ?_) (RefValue.run m' g')
  exact ⟨(hr c).1.trans (dets_eq m g m' c (h c).1 (h c).2), (hr c).2.1.trans (labels_eq m g m' c (h c).1 (h c).2),
    (hr c).2.2.1.trans (valids_eq m g m' c (h c).1 (h c).2), (hr c).2.2.2⟩

end Cert.Agree
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.RefRun
public import proofs.«01_k».proof.Proof.Agree
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts,
  fun m ρ _ => Cert.Kernel.Gen.frame m ρ, fun m ρ _ => Cert.KernelIdeal.Gen.frame m ρ, fun m ρ _ => Cert.RefValue.frame m ρ,
  trivial, Cert.Agree.algebraic⟩

end Cert.Proof

end
